-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 32768, 2, 128]⟩ ⟨4, ![1, 131072, 2, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 32768, 2, 128]⟩ ⟨4, ![1, 131072, 2, 128]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x1024 : Shape := ⟨3, ![1, 128, 1024]⟩
abbrev S1024x1024 : Shape := ⟨2, ![1024, 1024]⟩
abbrev S1x32768x2x128 : Shape := ⟨4, ![1, 32768, 2, 128]⟩
abbrev S2x512x128 : Shape := ⟨3, ![2, 512, 128]⟩
abbrev S2x512x1 : Shape := ⟨3, ![2, 512, 1]⟩
abbrev S4x2x1024x128 : Shape := ⟨4, ![4, 2, 1024, 128]⟩
abbrev S4x4 : Shape := ⟨2, ![4, 4]⟩
abbrev S4x2x512x256 : Shape := ⟨4, ![4, 2, 512, 256]⟩
abbrev S4 : Shape := ⟨1, ![4]⟩
abbrev S1x1 : Shape := ⟨2, ![1, 1]⟩
abbrev S_ : Shape := ⟨0, ![]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S128x1024 : Shape := ⟨2, ![128, 1024]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1x2x512x128 : Shape := ⟨4, ![1, 2, 512, 128]⟩
abbrev S1x2x512x1 : Shape := ⟨4, ![1, 2, 512, 1]⟩
abbrev S1 : Shape := ⟨1, ![1]⟩
abbrev S1x2x512x256 : Shape := ⟨4, ![1, 2, 512, 256]⟩
abbrev S2x512x256 : Shape := ⟨3, ![2, 512, 256]⟩

abbrev nBuf : Space → Nat
  | .hbm => 6
  | .vmem => 11
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1024x1024, .f32⟩
  | .hbm, ⟨3, _⟩ => ⟨S1x32768x2x128, .f32⟩
  | .hbm, ⟨4, _⟩ => ⟨S1x32768x2x128, .f32⟩
  | .hbm, ⟨5, _⟩ => ⟨S1x128x1024, .f32⟩
  | .local _ .vmem, ⟨0, _⟩ => ⟨S1x128x1024, .f32⟩
  | .local _ .vmem, ⟨1, _⟩ => ⟨S1024x1024, .f32⟩
  | .local _ .vmem, ⟨2, _⟩ => ⟨S1024x1024, .f32⟩
  | .local _ .vmem, ⟨3, _⟩ => ⟨S1x128x1024, .f32⟩
  | .local _ .vmem, ⟨4, _⟩ => ⟨S2x512x128, .f32⟩
  | .local _ .vmem, ⟨5, _⟩ => ⟨S2x512x128, .f32⟩
  | .local _ .vmem, ⟨6, _⟩ => ⟨S2x512x1, .f32⟩
  | .local _ .vmem, ⟨7, _⟩ => ⟨S2x512x1, .f32⟩
  | .local _ .vmem, ⟨8, _⟩ => ⟨S4x2x1024x128, .f32⟩
  | .local _ .vmem, ⟨9, _⟩ => ⟨S4x2x1024x128, .f32⟩
  | .local _ .vmem, ⟨10, _⟩ => ⟨S4x2x512x256, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c0_i32_111 : BitVec 32 := 0#32
  ![v139.toNat, 0]
def k0_off2 (i : grid0.Coords) : Fin 4 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c0_i32_110 : BitVec 32 := 0#32
  let c0_i32_112 : BitVec 32 := 0#32
  let c0_i32_113 : BitVec 32 := 0#32
  ![v139.toNat, 0, 0, 0]
def k0_off3 (i : grid0.Coords) : Fin 4 → Nat :=
  let c0_i32_108 : BitVec 32 := 0#32
  let arg0 : BitVec 32 := BitVec.ofNat 32 (i 0).val
  let c2_i32_96 : BitVec 32 := 2#32
  let v128 : BitVec 32 := Scalar.addi arg0 c2_i32_96
  let c1024_i32_104 : BitVec 32 := 1024#32
  let v140 : BitVec 32 := Scalar.muli v128 c1024_i32_104
  let c0_i32_109 : BitVec 32 := 0#32
  let c0_i32_114 : BitVec 32 := 0#32
  ![0, v140.toNat, 0, 0]
def k0_off4 (i : grid0.Coords) : Fin 2 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c1_i32_118 : BitVec 32 := 1#32
  ![v139.toNat, 1]
def k0_off5 (i : grid0.Coords) : Fin 4 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c1_i32_117 : BitVec 32 := 1#32
  let c0_i32_119 : BitVec 32 := 0#32
  let c0_i32_120 : BitVec 32 := 0#32
  ![v139.toNat, 1, 0, 0]
def k0_off6 (i : grid0.Coords) : Fin 4 → Nat :=
  let c0_i32_115 : BitVec 32 := 0#32
  let arg0 : BitVec 32 := BitVec.ofNat 32 (i 0).val
  let c2_i32_96 : BitVec 32 := 2#32
  let v128 : BitVec 32 := Scalar.addi arg0 c2_i32_96
  let c1024_i32_105 : BitVec 32 := 1024#32
  let v141 : BitVec 32 := Scalar.muli v128 c1024_i32_105
  let c1_i32_116 : BitVec 32 := 1#32
  let c0_i32_121 : BitVec 32 := 0#32
  ![0, v141.toNat, 1, 0]
def k0_off7 (i : grid0.Coords) : Fin 2 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c2_i32_125 : BitVec 32 := 2#32
  ![v139.toNat, 2]
def k0_off8 (i : grid0.Coords) : Fin 2 → Nat :=
  let arg0 : BitVec 32 := BitVec.ofNat 32 (i 0).val
  let c2_i32_97 : BitVec 32 := 2#32
  let v129 : BitVec 32 := Scalar.addi arg0 c2_i32_97
  let c4_i32_98 : BitVec 32 := 4#32
  let c0_i32_99 : BitVec 32 := 0#32
  let v130 : BitVec 1 := Scalar.cmpi .eq c4_i32_98 c0_i32_99
  let c1_i32_100 : BitVec 32 := 1#32
  let v131 : BitVec 32 := Scalar.select v130 c1_i32_100 c4_i32_98
  let v132 : BitVec 32 := Scalar.remsi v129 v131
  let c0_i32_102 : BitVec 32 := 0#32
  let v134 : BitVec 1 := Scalar.cmpi .slt v132 c0_i32_102
  let c0_i32_103 : BitVec 32 := 0#32
  let v135 : BitVec 1 := Scalar.cmpi .slt v131 c0_i32_103
  let v136 : BitVec 1 := Scalar.xori v134 v135
  let c0_i32_101 : BitVec 32 := 0#32
  let v133 : BitVec 1 := Scalar.cmpi .ne v132 c0_i32_101
  let v137 : BitVec 1 := Scalar.andi v136 v133
  let v138 : BitVec 32 := Scalar.addi v132 v131
  let v139 : BitVec 32 := Scalar.select v137 v138 v132
  let c3_i32_132 : BitVec 32 := 3#32
  ![v139.toNat, 3]
def k0_off9 (i : grid0.Coords) : Fin 2 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_12 : BitVec 32 := 0#32
  ![v16.toNat, 0]
def k0_off10 (i : grid0.Coords) : Fin 4 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_11 : BitVec 32 := 0#32
  let c0_i32_13 : BitVec 32 := 0#32
  let c0_i32_14 : BitVec 32 := 0#32
  ![v16.toNat, 0, 0, 0]
def k0_off11 (i : grid0.Coords) : Fin 4 → Nat :=
  let c0_i32_9 : BitVec 32 := 0#32
  let arg0 : BitVec 32 := BitVec.ofNat 32 (i 0).val
  let c1024_i32 : BitVec 32 := 1024#32
  let v17 : BitVec 32 := Scalar.muli arg0 c1024_i32
  let c0_i32_10 : BitVec 32 := 0#32
  let c0_i32_15 : BitVec 32 := 0#32
  ![0, v17.toNat, 0, 0]
def k0_off12 (i : grid0.Coords) : Fin 2 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_19 : BitVec 32 := 1#32
  ![v16.toNat, 1]
def k0_off13 (i : grid0.Coords) : Fin 4 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c1_i32_18 : BitVec 32 := 1#32
  let c0_i32_20 : BitVec 32 := 0#32
  let c0_i32_21 : BitVec 32 := 0#32
  ![v16.toNat, 1, 0, 0]
def k0_off14 (i : grid0.Coords) : Fin 4 → Nat :=
  let c0_i32_16 : BitVec 32 := 0#32
  let arg0 : BitVec 32 := BitVec.ofNat 32 (i 0).val
  let c1024_i32_6 : BitVec 32 := 1024#32
  let v18 : BitVec 32 := Scalar.muli arg0 c1024_i32_6
  let c1_i32_17 : BitVec 32 := 1#32
  let c0_i32_22 : BitVec 32 := 0#32
  ![0, v18.toNat, 1, 0]
def k0_off15 (i : grid0.Coords) : Fin 2 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c2_i32_26 : BitVec 32 := 2#32
  ![v16.toNat, 2]
def k0_off16 (i : grid0.Coords) : Fin 2 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c3_i32 : BitVec 32 := 3#32
  ![v16.toNat, 3]
def k0_off17 (i : grid0.Coords) : Fin 4 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v47 : Index := Scalar.indexCast v16
  let c0_38 : Index := 0#32
  let c0_39 : Index := 0#32
  let c0_40 : Index := 0#32
  ![v47.toNat, 0, 0, 0]
def k0_off18 (i : grid0.Coords) : Fin 4 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v87 : Index := Scalar.indexCast v16
  let c1_67 : Index := 1#32
  let c0_68 : Index := 0#32
  let c0_69 : Index := 0#32
  ![v87.toNat, 1, 0, 0]
def k0_cond3 (i : grid0.Coords) : BitVec 1 :=
  let arg0 : BitVec 32 := BitVec.ofNat 32 (i 0).val
  let c31_i32 : BitVec 32 := 31#32
  let v125 : BitVec 1 := Scalar.cmpi .eq arg0 c31_i32
  let v126 : BitVec 32 := Scalar.extui v125
  let c0_i32_95 : BitVec 32 := 0#32
  let v127 : BitVec 1 := Scalar.cmpi .ne v126 c0_i32_95
  v127

def k0_dev1 (d128 : Dev nD) : Nat :=
  let c0_i32_134 : BitVec 32 := 0#32
  let v128 : BitVec 32 := Dev.word d128
  let c1_i32_97 : BitVec 32 := 1#32
  let v129 : BitVec 32 := Scalar.divsi v128 c1_i32_97
  let c4_i32_96 : BitVec 32 := 4#32
  let v130 : BitVec 32 := Scalar.remsi v129 c4_i32_96
  let c4_i32_105 : BitVec 32 := 4#32
  let v142 : BitVec 32 := Scalar.addi v130 c4_i32_105
  let c1_i32_106 : BitVec 32 := 1#32
  let v143 : BitVec 32 := Scalar.subi v142 c1_i32_106
  let c4_i32_107 : BitVec 32 := 4#32
  let c0_i32_108 : BitVec 32 := 0#32
  let v144 : BitVec 1 := Scalar.cmpi .eq c4_i32_107 c0_i32_108
  let c1_i32_109 : BitVec 32 := 1#32
  let v145 : BitVec 32 := Scalar.select v144 c1_i32_109 c4_i32_107
  let v146 : BitVec 32 := Scalar.remsi v143 v145
  let c0_i32_111 : BitVec 32 := 0#32
  let v148 : BitVec 1 := Scalar.cmpi .slt v146 c0_i32_111
  let c0_i32_112 : BitVec 32 := 0#32
  let v149 : BitVec 1 := Scalar.cmpi .slt v145 c0_i32_112
  let v150 : BitVec 1 := Scalar.xori v148 v149
  let c0_i32_110 : BitVec 32 := 0#32
  let v147 : BitVec 1 := Scalar.cmpi .ne v146 c0_i32_110
  let v151 : BitVec 1 := Scalar.andi v150 v147
  let v152 : BitVec 32 := Scalar.addi v146 v145
  let v153 : BitVec 32 := Scalar.select v151 v152 v146
  let c1_i32_133 : BitVec 32 := 1#32
  let v167 : BitVec 32 := Scalar.muli v153 c1_i32_133
  let v168 : BitVec 32 := Scalar.addi c0_i32_134 v167
  v168.toNat
def k0_dev2 (d128 : Dev nD) : Nat :=
  let c0_i32_137 : BitVec 32 := 0#32
  let v128 : BitVec 32 := Dev.word d128
  let c1_i32_97 : BitVec 32 := 1#32
  let v129 : BitVec 32 := Scalar.divsi v128 c1_i32_97
  let c4_i32_96 : BitVec 32 := 4#32
  let v130 : BitVec 32 := Scalar.remsi v129 c4_i32_96
  let c1_i32_98 : BitVec 32 := 1#32
  let v131 : BitVec 32 := Scalar.addi v130 c1_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1_i32_136 : BitVec 32 := 1#32
  let v169 : BitVec 32 := Scalar.muli v141 c1_i32_136
  let v170 : BitVec 32 := Scalar.addi c0_i32_137 v169
  v170.toNat
def k0_dev3 (d128 : Dev nD) : Nat :=
  let c0_i32_144 : BitVec 32 := 0#32
  let v128 : BitVec 32 := Dev.word d128
  let c1_i32_97 : BitVec 32 := 1#32
  let v129 : BitVec 32 := Scalar.divsi v128 c1_i32_97
  let c4_i32_96 : BitVec 32 := 4#32
  let v130 : BitVec 32 := Scalar.remsi v129 c4_i32_96
  let c1_i32_98 : BitVec 32 := 1#32
  let v131 : BitVec 32 := Scalar.addi v130 c1_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1_i32_143 : BitVec 32 := 1#32
  let v171 : BitVec 32 := Scalar.muli v141 c1_i32_143
  let v172 : BitVec 32 := Scalar.addi c0_i32_144 v171
  v172.toNat
def k0_dev4 (d128 : Dev nD) : Nat :=
  let c0_i32_209 : BitVec 32 := 0#32
  let v128 : BitVec 32 := Dev.word d128
  let c1_i32_97 : BitVec 32 := 1#32
  let v129 : BitVec 32 := Scalar.divsi v128 c1_i32_97
  let c4_i32_96 : BitVec 32 := 4#32
  let v130 : BitVec 32 := Scalar.remsi v129 c4_i32_96
  let c1_i32_98 : BitVec 32 := 1#32
  let v131 : BitVec 32 := Scalar.addi v130 c1_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1_i32_208 : BitVec 32 := 1#32
  let v226 : BitVec 32 := Scalar.muli v141 c1_i32_208
  let v227 : BitVec 32 := Scalar.addi c0_i32_209 v226
  v227.toNat
def k0_dev5 (d128 : Dev nD) : Nat :=
  let c0_i32_273 : BitVec 32 := 0#32
  let v128 : BitVec 32 := Dev.word d128
  let c1_i32_97 : BitVec 32 := 1#32
  let v129 : BitVec 32 := Scalar.divsi v128 c1_i32_97
  let c4_i32_96 : BitVec 32 := 4#32
  let v130 : BitVec 32 := Scalar.remsi v129 c4_i32_96
  let c1_i32_98 : BitVec 32 := 1#32
  let v131 : BitVec 32 := Scalar.addi v130 c1_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1_i32_272 : BitVec 32 := 1#32
  let v281 : BitVec 32 := Scalar.muli v141 c1_i32_272
  let v282 : BitVec 32 := Scalar.addi c0_i32_273 v281
  v282.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x128x1024 : Shape := ⟨3, ![1, 128, 1024]⟩
abbrev S1024x1024 : Shape := ⟨2, ![1024, 1024]⟩
abbrev S1x131072x2x128 : Shape := ⟨4, ![1, 131072, 2, 128]⟩
abbrev S1x128x8x128 : Shape := ⟨4, ![1, 128, 8, 128]⟩
abbrev S1x131072x2x4x128 : Shape := ⟨5, ![1, 131072, 2, 4, 128]⟩
abbrev S1x131072x8x128 : Shape := ⟨4, ![1, 131072, 8, 128]⟩
abbrev S1x8x128x131072 : Shape := ⟨4, ![1, 8, 128, 131072]⟩
abbrev S_ : Shape := ⟨0, ![]⟩
abbrev S1x8x128 : Shape := ⟨3, ![1, 8, 128]⟩
abbrev S1x8x128x1 : Shape := ⟨4, ![1, 8, 128, 1]⟩
abbrev S1x8x128x128 : Shape := ⟨4, ![1, 8, 128, 128]⟩
abbrev S1x128x8x1 : Shape := ⟨4, ![1, 128, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1024x1024, .f32⟩
  | .hbm, ⟨3, _⟩ => ⟨S1x131072x2x128, .f32⟩
  | .hbm, ⟨4, _⟩ => ⟨S1x131072x2x128, .f32⟩
  | .hbm, ⟨5, _⟩ => ⟨S1x128x1024, .f32⟩
  | .hbm, ⟨6, _⟩ => ⟨S1x128x8x128, .f32⟩
  | .hbm, ⟨7, _⟩ => ⟨S1x131072x2x4x128, .f32⟩
  | .hbm, ⟨8, _⟩ => ⟨S1x131072x8x128, .f32⟩
  | .hbm, ⟨9, _⟩ => ⟨S1x131072x2x4x128, .f32⟩
  | .hbm, ⟨10, _⟩ => ⟨S1x131072x8x128, .f32⟩
  | .hbm, ⟨11, _⟩ => ⟨S1x8x128x131072, .f32⟩
  | .hbm, ⟨12, _⟩ => ⟨S_, .f32⟩
  | .hbm, ⟨13, _⟩ => ⟨S1x8x128x131072, .f32⟩
  | .hbm, ⟨14, _⟩ => ⟨S1x8x128x131072, .f32⟩
  | .hbm, ⟨15, _⟩ => ⟨S_, .f32⟩
  | .hbm, ⟨16, _⟩ => ⟨S1x8x128, .f32⟩
  | .hbm, ⟨17, _⟩ => ⟨S1x8x128x1, .f32⟩
  | .hbm, ⟨18, _⟩ => ⟨S1x8x128x131072, .f32⟩
  | .hbm, ⟨19, _⟩ => ⟨S1x8x128x131072, .f32⟩
  | .hbm, ⟨20, _⟩ => ⟨S1x8x128x131072, .f32⟩
  | .hbm, ⟨21, _⟩ => ⟨S_, .f32⟩
  | .hbm, ⟨22, _⟩ => ⟨S1x8x128, .f32⟩
  | .hbm, ⟨23, _⟩ => ⟨S1x8x128x1, .f32⟩
  | .hbm, ⟨24, _⟩ => ⟨S1x8x128x128, .f32⟩
  | .hbm, ⟨25, _⟩ => ⟨S1x128x8x128, .f32⟩
  | .hbm, ⟨26, _⟩ => ⟨S1x128x8x1, .f32⟩
  | .hbm, ⟨27, _⟩ => ⟨S1x128x8x128, .f32⟩
  | .hbm, ⟨28, _⟩ => ⟨S1x128x8x128, .f32⟩
  | .hbm, ⟨29, _⟩ => ⟨S1x128x1024, .f32⟩
  | .hbm, ⟨30, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Base.lean ====
/-
# The ring of four devices, its memrefs and its semaphore cells

Names for what the kernel's body touches: the neighbours on the ring, the slots of the two streaming buffers, the
chunks of the two sharded arrays, the slabs of the exchange buffer, and the semaphores, each as a function of its
coordinates. The offsets that the body computes from the grid point are put in closed form here.
-/
module

public import proofs.«01_k».proof.Proof.Gen.KernelIdeal.Frame
public import proofs.«01_k».proof.Proof.Gen.KernelIdeal.Skeleton
public import Idealize.ShloMosaic.Lib.Transfers
public import Idealize.ShloMosaic.Lib.Pipeline.Launch

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds, and the counters of the local transfers -/

abbrev UB : Type := URounds (GSem nD τ sig) Bool
abbrev UU : Type := UR sig nD τ × (UB × Counters)

/-- The assertions of this proof. -/
abbrev MM (F : FTy → Type) : Type := MT nD τ sig Unit (Elt F) ℕ UU ℕ

abbrev EP : Emb (UR sig nD τ) (MM F) := embL
/-- The ring's rounds: the left half of the right factor. -/
def ER : Emb UB (MM F) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MM F)).LandsIn (upEmb : UEmb _ (MM F)) := by unfold ER; infer_instance

/-- The counters of the local transfers. -/
abbrev EC : UEmb Counters (MM F) := countersEmb

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Walking on by one is a permutation of the devices. -/
def ring : Dev nD ≃ Dev nD := ⟨nxt, prv, prv_nxt, nxt_prv⟩

theorem dev1_eq (c : Dev nD) (h) : (⟨k0_dev1 c, h⟩ : Dev nD) = prv c :=
  Fin.ext ((show ∀ c : Dev nD, k0_dev1 c = (prv c).val by decide +kernel) c)
theorem dev2_eq (c : Dev nD) (h) : (⟨k0_dev2 c, h⟩ : Dev nD) = nxt c :=
  Fin.ext ((show ∀ c : Dev nD, k0_dev2 c = (nxt c).val by decide +kernel) c)
theorem dev3_eq (c : Dev nD) (h) : (⟨k0_dev3 c, h⟩ : Dev nD) = nxt c :=
  Fin.ext ((show ∀ c : Dev nD, k0_dev3 c = (nxt c).val by decide +kernel) c)
theorem dev4_eq (c : Dev nD) (h) : (⟨k0_dev4 c, h⟩ : Dev nD) = nxt c :=
  Fin.ext ((show ∀ c : Dev nD, k0_dev4 c = (nxt c).val by decide +kernel) c)
theorem dev5_eq (c : Dev nD) (h) : (⟨k0_dev5 c, h⟩ : Dev nD) = nxt c :=
  Fin.ext ((show ∀ c : Dev nD, k0_dev5 c = (nxt c).val by decide +kernel) c)

/-! ## The grid point's conditions and offsets -/

abbrev gp (t : Fin grid0.N) : ℕ := (grid0.coords t 0).val

theorem cond2_iff : ∀ i : grid0.Coords, k0_cond2 i = 1#1 ↔ (i 0).val + 2 < 32 := by decide +kernel
theorem cond3_iff : ∀ i : grid0.Coords, k0_cond3 i = 1#1 ↔ (i 0).val = 31 := by decide +kernel

theorem off1_eq : ∀ i : grid0.Coords, k0_off1 i = ![((i 0).val + 2) % 4, 0] := by decide +kernel
theorem off4_eq : ∀ i : grid0.Coords, k0_off4 i = ![((i 0).val + 2) % 4, 1] := by decide +kernel
theorem off7_eq : ∀ i : grid0.Coords, k0_off7 i = ![((i 0).val + 2) % 4, 2] := by decide +kernel
theorem off8_eq : ∀ i : grid0.Coords, k0_off8 i = ![((i 0).val + 2) % 4, 3] := by decide +kernel
theorem off9_eq : ∀ i : grid0.Coords, k0_off9 i = ![(i 0).val % 4, 0] := by decide +kernel
theorem off12_eq : ∀ i : grid0.Coords, k0_off12 i = ![(i 0).val % 4, 1] := by decide +kernel
theorem off15_eq : ∀ i : grid0.Coords, k0_off15 i = ![(i 0).val % 4, 2] := by decide +kernel
theorem off16_eq : ∀ i : grid0.Coords, k0_off16 i = ![(i 0).val % 4, 3] := by decide +kernel
theorem off2_eq : ∀ i : grid0.Coords, k0_off2 i = ![((i 0).val + 2) % 4, 0, 0, 0] := by decide +kernel
theorem off5_eq : ∀ i : grid0.Coords, k0_off5 i = ![((i 0).val + 2) % 4, 1, 0, 0] := by decide +kernel
theorem off10_eq : ∀ i : grid0.Coords, k0_off10 i = ![(i 0).val % 4, 0, 0, 0] := by decide +kernel
theorem off13_eq : ∀ i : grid0.Coords, k0_off13 i = ![(i 0).val % 4, 1, 0, 0] := by decide +kernel
theorem off17_eq : ∀ i : grid0.Coords, k0_off17 i = ![(i 0).val % 4, 0, 0, 0] := by decide +kernel
theorem off18_eq : ∀ i : grid0.Coords, k0_off18 i = ![(i 0).val % 4, 1, 0, 0] := by decide +kernel

/-! ## Memrefs -/

abbrev xM : Memref sig .tc .vmem S1x128x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x128x1024 .f32 := Memref.whole cc0_stg3_0
abbrev qM : Memref sig .tc .vmem S2x512x128 .f32 := Memref.whole cc0_scratch0
abbrev oM : Memref sig .tc .vmem S2x512x128 .f32 := Memref.whole cc0_scratch1
abbrev mM : Memref sig .tc .vmem S2x512x1 .f32 := Memref.whole cc0_scratch2
abbrev lM : Memref sig .tc .vmem S2x512x1 .f32 := Memref.whole cc0_scratch3
abbrev kB : Memref sig .tc .vmem S4x2x1024x128 .f32 := Memref.whole cc0_scratch4
abbrev vB : Memref sig .tc .vmem S4x2x1024x128 .f32 := Memref.whole cc0_scratch5
abbrev cB : Memref sig .tc .vmem S4x2x512x256 .f32 := Memref.whole cc0_scratch7
abbrev kA : Memref sig .tc .hbm S1x32768x2x128 .f32 := Memref.whole main_arg3
abbrev vA : Memref sig .tc .hbm S1x32768x2x128 .f32 := Memref.whole main_arg4

theorem slot_inb (s g : ℕ) (hs : s < 4) (hg : g < 2) :
    ∀ a, (![s, g, 0, 0] : Fin 4 → ℕ) a + S1x1x1024x128.size a ≤ S4x2x1024x128.size a := by
  intro a; fin_cases a <;> simp [S1x1x1024x128, S4x2x1024x128] <;> omega
theorem chunk_inb (t g : ℕ) (hg : g < 2) :
    ∀ a, (![0, 1024 * (t % 32), g, 0] : Fin 4 → ℕ) a + S1x1024x1x128.size a ≤ S1x32768x2x128.size a := by
  intro a
  have := Nat.mod_lt t (show 0 < 32 by decide)
  fin_cases a <;> simp [S1x1024x1x128, S1x32768x2x128] <;> omega
theorem sem_inb (s k : ℕ) (hs : s < 4) (hk : k < 4) : ∀ a, (![s, k] : Fin 2 → ℕ) a + S1x1.size a ≤ S4x4.size a := by
  intro a; fin_cases a <;> simp [S1x1, S4x4] <;> omega
theorem slab_inb (h : ℕ) (hh : h < 4) : ∀ a, (![h, 0, 0, 0] : Fin 4 → ℕ) a + S1x2x512x256.size a ≤ S4x2x512x256.size a := by
  intro a; fin_cases a <;> simp [S1x2x512x256, S4x2x512x256] <;> omega
theorem hop_inb (h : ℕ) (hh : h < 4) : ∀ a, (![h] : Fin 1 → ℕ) a + S1.size a ≤ S4.size a := by
  intro a; fin_cases a; simp [S1, S4]; omega

/-- Slot `s`, head group `g` of a streaming buffer. -/
abbrev slotM (b : Memref sig .tc .vmem S4x2x1024x128 .f32) (s g : ℕ) (hs : s < 4) (hg : g < 2) : Memref sig .tc .vmem S1024x128 .f32 :=
  (b.slice (Rect.unit (s := S4x2x1024x128) ![s, g, 0, 0] S1x1x1024x128.size (slot_inb s g hs hg)) (fun _ => rfl)).squeeze S1024x128
    squeezes_S1x1x1024x128_S1024x128

/-- Chunk `t` (of 32), head group `g` of a sharded array's block on a device. -/
abbrev chunkM (a : Memref sig .tc .hbm S1x32768x2x128 .f32) (t g : ℕ) (hg : g < 2) : Memref sig .tc .hbm S1024x128 .f32 :=
  (a.slice (Rect.unit (s := S1x32768x2x128) ![0, 1024 * (t % 32), g, 0] S1x1024x1x128.size (chunk_inb t g hg)) (fun _ => rfl)).squeeze S1024x128
    squeezes_S1x1024x1x128_S1024x128

/-- Slab `h` of the exchange buffer. -/
abbrev slabM (h : ℕ) (hh : h < 4) : Memref sig .tc .vmem S2x512x256 .f32 :=
  (cB.slice (Rect.unit (s := S4x2x512x256) ![h, 0, 0, 0] S1x2x512x256.size (slab_inb h hh)) (fun _ => rfl)).squeeze S2x512x256
    squeezes_S1x2x512x256_S2x512x256

/-! ## Semaphores and cells -/

/-- The streaming semaphore of slot `s`, column `k` (tensor, then head group). -/
abbrev kvS (s k : ℕ) (hs : s < 4) (hk : k < 4) : DmaSem sig :=
  ((cc0_scratch6.slice (Rect.unit (s := S4x4) ![s, k] S1x1.size (sem_inb s k hs hk))).squeeze S_ squeezes_S1x1_S_).sem
/-- The send and the receive semaphore of entry `h`. -/
abbrev sendS (h : ℕ) (hh : h < 4) : DmaSem sig :=
  ((cc0_scratch8.slice (Rect.unit (s := S4) ![h] S1.size (hop_inb h hh))).squeeze S_ squeezes_S1_S_).sem
abbrev recvS (h : ℕ) (hh : h < 4) : DmaSem sig :=
  ((cc0_scratch9.slice (Rect.unit (s := S4) ![h] S1.size (hop_inb h hh))).squeeze S_ squeezes_S1_S_).sem
/-- The runtime's barrier semaphore of collective id 0 (not scoped to the launch). -/
abbrev barS : Sem sig := (SemArray.scalar (sig.barrier 0 rfl) : Sems sig S_).sem

theorem kvS_val : ∀ (s k : Fin 4), kvS s.val k.val s.isLt k.isLt = (⟨4 + 4 * s.val + k.val, by have := s.isLt; have := k.isLt; show _ < 28; omega⟩ : DmaSem sig) := by decide +kernel
theorem sendS_val : ∀ (h : Fin 4), sendS h.val h.isLt = (⟨20 + h.val, by have := h.isLt; show _ < 28; omega⟩ : DmaSem sig) := by decide +kernel
theorem recvS_val : ∀ (h : Fin 4), recvS h.val h.isLt = (⟨24 + h.val, by have := h.isLt; show _ < 28; omega⟩ : DmaSem sig) := by decide +kernel

abbrev barCell (c : Dev nD) : GSem nD τ sig := ((c : Thread nD τ), .reg barS)
abbrev sendCell (c : Dev nD) (h : ℕ) (hh : h < 4) : GSem nD τ sig := ((c : Thread nD τ), .dma (sendS h hh))
abbrev recvCell (c : Dev nD) (h : ℕ) (hh : h < 4) : GSem nD τ sig := ((c : Thread nD τ), .dma (recvS h hh))

/-- What one slab's transfer credits, and one chunk's. -/
abbrev NR : ℕ := (slabM 0 (by decide)).view.dmaCredit
abbrev NL : ℕ := (slotM kB 0 0 (by decide) (by decide)).view.dmaCredit
theorem NR_pos : 0 < NR := View.dmaCredit_pos _ (by decide)
theorem NL_pos : 0 < NL := View.dmaCredit_pos _ (by decide)

end Cert.RingAttn

end
-- ==== Proof.State.lean ====
/-
# What the buffers hold

The contents of the accumulators at every grid point, as the very stores of the body leave them: the scaled queries
after the first point's eight stores, the running output, maximum and sum after each chunk, the message a device
sends round the ring, and the three merges. Everything is over any float values.
-/
module

public import proofs.«01_k».proof.Proof.Base

@[expose] public section

noncomputable section

namespace Cert.RingAttn

open Cert.KernelIdeal Cert.KernelIdeal.Gen

open Idealize.ShloMosaic Idealize.ShloMosaic.TcCoe

variable {F : FTy → Type} [FloatOps F]

/-! ## Rectangles -/

abbrev qR (g h : ℕ) (hb : ∀ a, (![g, h, 0] : Fin 3 → ℕ) a + S1x128x128.size a ≤ S2x512x128.size a) : Rect S2x512x128 :=
  Rect.unit (s := S2x512x128) ![g, h, 0] S1x128x128.size hb
abbrev oR0 : Rect S2x512x128 := Rect.unit (s := S2x512x128) ![0, 0, 0] S1x512x128.size inb_S2x512x128_S1x512x128_0_0_0
abbrev oR1 : Rect S2x512x128 := Rect.unit (s := S2x512x128) ![1, 0, 0] S1x512x128.size inb_S2x512x128_S1x512x128_1_0_0
abbrev mR0 : Rect S2x512x1 := Rect.unit (s := S2x512x1) ![0, 0, 0] S1x512x1.size inb_S2x512x1_S1x512x1_0_0_0
abbrev mR1 : Rect S2x512x1 := Rect.unit (s := S2x512x1) ![1, 0, 0] S1x512x1.size inb_S2x512x1_S1x512x1_1_0_0
abbrev kR (s g : ℕ) (hs : s < 4) (hg : g < 2) : Rect S4x2x1024x128 := Rect.unit (s := S4x2x1024x128) ![s, g, 0, 0] S1x1x1024x128.size (slot_inb s g hs hg)
abbrev aR (t g : ℕ) (hg : g < 2) : Rect S1x32768x2x128 := Rect.unit (s := S1x32768x2x128) ![0, 1024 * (t % 32), g, 0] S1x1024x1x128.size (chunk_inb t g hg)

/-! ## The scaled queries -/

/-- One of the eight blocks of columns of `Wq`. -/
abbrev wqCol (wq : Vec F S1024x1024 .f32) (h : ℕ) (hb : ∀ a, (![0, h] : Fin 2 → ℕ) a + S1024x128.size a ≤ S1024x1024.size a) : Vec F S1024x128 .f32 :=
  wqM.view.readAt (Elt F) (Rect.unit (s := S1024x1024) ![0, h] S1024x128.size hb).toLoadRect wq

/-- One store of 128 rows into the query buffer. -/
abbrev qPut (f : Vec F S2x512x128 .f32) (g h : ℕ) (hb : ∀ a, (![g, h, 0] : Fin 3 → ℕ) a + S1x128x128.size a ≤ S2x512x128.size a)
    (p : Vec F S1x128x128 .f32) : Vec F S2x512x128 .f32 :=
  (qM.access (qR g h hb) : View sig .tc _ _ _).write (Elt F) f p Finset.univ

/-- The query buffer after the eight stores of the first grid point, over contents `f`. -/
def qOver (x : Vec F S1x128x1024 .f32) (wq : Vec F S1024x1024 .f32) (f : Vec F S2x512x128 .f32) : Vec F S2x512x128 .f32 :=
  let f := qPut f 0 0 inb_S2x512x128_S1x128x128_0_0_0 (k0_pay4 x (wqCol wq 0 inb_S1024x1024_S1024x128_0_0))
  let f := qPut f 0 128 inb_S2x512x128_S1x128x128_0_128_0 (k0_pay5 x (wqCol wq 128 inb_S1024x1024_S1024x128_0_128))
  let f := qPut f 0 256 inb_S2x512x128_S1x128x128_0_256_0 (k0_pay7 (k0_pay6 x (wqCol wq 256 inb_S1024x1024_S1024x128_0_256)) (Scalar.ofBits .f32 0x3DB504F3#32))
  let f := qPut f 0 384 inb_S2x512x128_S1x128x128_0_384_0 (k0_pay8 (k0_pay3 x) (wqCol wq 384 inb_S1024x1024_S1024x128_0_384))
  let f := qPut f 1 0 inb_S2x512x128_S1x128x128_1_0_0 (k0_pay9 (k0_pay3 x) (wqCol wq 512 inb_S1024x1024_S1024x128_0_512))
  let f := qPut f 1 128 inb_S2x512x128_S1x128x128_1_128_0 (k0_pay10 (k0_pay3 x) (wqCol wq 640 inb_S1024x1024_S1024x128_0_640))
  let f := qPut f 1 256 inb_S2x512x128_S1x128x128_1_256_0 (k0_pay11 (k0_pay3 x) (wqCol wq 768 inb_S1024x1024_S1024x128_0_768))
  qPut f 1 384 inb_S2x512x128_S1x128x128_1_384_0 (k0_pay12 (k0_pay3 x) (wqCol wq 896 inb_S1024x1024_S1024x128_0_896))

/-- The query buffer: the eight stores over the zero buffer (they cover it: `qOver_eq`). -/
def qC (x : Vec F S1x128x1024 .f32) (wq : Vec F S1024x1024 .f32) : Vec F S2x512x128 .f32 := qOver x wq k0_pay13

/-! ## The accumulators -/

/-- The running output, maximum and sum of one device. -/
structure St (F : FTy → Type) where
  o : Vec F S2x512x128 .f32
  m : Vec F S2x512x1 .f32
  l : Vec F S2x512x1 .f32

/-- The accumulators as the first grid point stores them. -/
def st0 : St F := ⟨k0_pay13, k0_pay15, k0_pay14⟩

abbrev rdO0 (f : Vec F S2x512x128 .f32) : Vec F S1x512x128 .f32 := oM.view.readAt (Elt F) oR0.toLoadRect f
abbrev rdO1 (f : Vec F S2x512x128 .f32) : Vec F S1x512x128 .f32 := oM.view.readAt (Elt F) oR1.toLoadRect f
abbrev rdQ0 (f : Vec F S2x512x128 .f32) : Vec F S1x512x128 .f32 := qM.view.readAt (Elt F) oR0.toLoadRect f
abbrev rdQ1 (f : Vec F S2x512x128 .f32) : Vec F S1x512x128 .f32 := qM.view.readAt (Elt F) oR1.toLoadRect f
abbrev rdM0 (f : Vec F S2x512x1 .f32) : Vec F S1x512x1 .f32 := mM.view.readAt (Elt F) mR0.toLoadRect f
abbrev rdM1 (f : Vec F S2x512x1 .f32) : Vec F S1x512x1 .f32 := mM.view.readAt (Elt F) mR1.toLoadRect f
abbrev rdL0 (f : Vec F S2x512x1 .f32) : Vec F S1x512x1 .f32 := lM.view.readAt (Elt F) mR0.toLoadRect f
abbrev rdL1 (f : Vec F S2x512x1 .f32) : Vec F S1x512x1 .f32 := lM.view.readAt (Elt F) mR1.toLoadRect f
abbrev wrO0 (f : Vec F S2x512x128 .f32) (p : Vec F S1x512x128 .f32) : Vec F S2x512x128 .f32 := (oM.access oR0 : View sig .tc _ _ _).write (Elt F) f p Finset.univ
abbrev wrO1 (f : Vec F S2x512x128 .f32) (p : Vec F S1x512x128 .f32) : Vec F S2x512x128 .f32 := (oM.access oR1 : View sig .tc _ _ _).write (Elt F) f p Finset.univ
abbrev wrM0 (f : Vec F S2x512x1 .f32) (p : Vec F S1x512x1 .f32) : Vec F S2x512x1 .f32 := (mM.access mR0 : View sig .tc _ _ _).write (Elt F) f p Finset.univ
abbrev wrM1 (f : Vec F S2x512x1 .f32) (p : Vec F S1x512x1 .f32) : Vec F S2x512x1 .f32 := (mM.access mR1 : View sig .tc _ _ _).write (Elt F) f p Finset.univ
abbrev wrL0 (f : Vec F S2x512x1 .f32) (p : Vec F S1x512x1 .f32) : Vec F S2x512x1 .f32 := (lM.access mR0 : View sig .tc _ _ _).write (Elt F) f p Finset.univ
abbrev wrL1 (f : Vec F S2x512x1 .f32) (p : Vec F S1x512x1 .f32) : Vec F S2x512x1 .f32 := (lM.access mR1 : View sig .tc _ _ _).write (Elt F) f p Finset.univ

/-- One chunk's update of head group 0's accumulators. -/
def half0 (q : Vec F S2x512x128 .f32) (k v : Vec F S1x1x1024x128 .f32) (s : St F) : St F where
  o := wrO0 s.o (k0_pay54 (k0_pay46 v) (k0_pay47 (rdQ0 q) k) (k0_pay48 (rdQ0 q) k) (rdM0 s.m) (rdO0 s.o))
  m := wrM0 s.m (k0_pay55 (k0_pay48 (rdQ0 q) k) (rdM0 s.m))
  l := wrL0 s.l (k0_pay53 (k0_pay47 (rdQ0 q) k) (k0_pay48 (rdQ0 q) k) (rdM0 s.m) (rdL0 s.l))

/-- One chunk's update of head group 1's accumulators. -/
def half1 (q : Vec F S2x512x128 .f32) (k v : Vec F S1x1x1024x128 .f32) (s : St F) : St F where
  o := wrO1 s.o (k0_pay64 (k0_pay56 (rdQ1 q)) (k0_pay57 k) v (rdM1 s.m) (rdO1 s.o))
  m := wrM1 s.m (k0_pay1 (k0_pay60 (k0_pay56 (rdQ1 q)) (k0_pay57 k) (rdM1 s.m)))
  l := wrL1 s.l (k0_pay63 (k0_pay56 (rdQ1 q)) (k0_pay57 k) (rdM1 s.m) (rdL1 s.l))

/-- Chunk `t` of a sharded array's block, head group `g`, as a slot of the streaming buffer holds it. -/
def chunkV (A : Vec F S1x32768x2x128 .f32) (t g : ℕ) (hg : g < 2) : Vec F S1x1x1024x128 .f32 :=
  shapeCast S1x1x1024x128 (shapeCast S1024x128 (kA.view.readAt (Elt F) (aR t g hg).toLoadRect A) squeezes_S1x1024x1x128_S1024x128.numel_eq)
    squeezes_S1x1x1024x128_S1024x128.numel_eq.symm

/-- The accumulators after `n` chunks. -/
def stAt (q : Vec F S2x512x128 .f32) (K V : Vec F S1x32768x2x128 .f32) : ℕ → St F
  | 0 => st0
  | n + 1 => half1 q (chunkV K n 1 (by decide)) (chunkV V n 1 (by decide)) (half0 q (chunkV K n 0 (by decide)) (chunkV V n 0 (by decide)) (stAt q K V n))

/-! ## The message and the merges -/

/-- What a device sends round the ring: its own three accumulators after every chunk. -/
structure Msg (F : FTy → Type) where
  o : Vec F S1x2x512x128 .f32
  m : Vec F S1x2x512x1 .f32
  l : Vec F S1x2x512x1 .f32

def msgOf (s : St F) : Msg F := ⟨k0_pay16 s.o, k0_pay17 s.m, k0_pay18 s.l⟩

def merge1 (p : Msg F) (s : St F) : St F where
  o := k0_pay25 (k0_pay19 p.o) (k0_pay20 p.m) s.m s.o
  m := k0_pay27 (k0_pay20 p.m) s.m
  l := k0_pay26 (k0_pay20 p.m) (k0_pay21 p.l) s.m s.l
def merge2 (p : Msg F) (s : St F) : St F where
  o := k0_pay33 (k0_pay28 p.o) (k0_pay29 p.m) s.m s.o
  m := k0_pay35 (k0_pay29 p.m) s.m
  l := k0_pay34 (k0_pay29 p.m) p.l s.m s.l
def merge3 (p : Msg F) (s : St F) : St F where
  o := k0_pay41 (k0_pay36 p.o) p.m s.m s.o
  m := k0_pay43 p.m s.m
  l := k0_pay42 p.m p.l s.m s.l

abbrev woRow (wo : Vec F S1024x1024 .f32) (h : ℕ) (hb : ∀ a, (![h, 0] : Fin 2 → ℕ) a + S128x1024.size a ≤ S1024x1024.size a) : Vec F S128x1024 .f32 :=
  woM.view.readAt (Elt F) (Rect.unit (s := S1024x1024) ![h, 0] S128x1024.size hb).toLoadRect wo

/-- The result block from the merged accumulators. -/
def outOf (wo : Vec F S1024x1024 .f32) (s : St F) : Vec F S1x128x1024 .f32 :=
  k0_pay2 (k0_pay44 s.o s.l)
    (k0_pay45 s.o s.l (woRow wo 0 inb_S1024x1024_S128x1024_0_0) (woRow wo 128 inb_S1024x1024_S128x1024_128_0)
      (woRow wo 256 inb_S1024x1024_S128x1024_256_0) (woRow wo 384 inb_S1024x1024_S128x1024_384_0)
      (woRow wo 512 inb_S1024x1024_S128x1024_512_0) (woRow wo 640 inb_S1024x1024_S128x1024_640_0))
    (woRow wo 768 inb_S1024x1024_S128x1024_768_0) (woRow wo 896 inb_S1024x1024_S128x1024_896_0)

/-! ## The eight stores cover the query buffer -/

theorem write_agree {κ : Kind} {sp : Space} {sh : Shape} {e : EltTy} (v : View sig κ sp sh e) {f g : v.ty.Contents (Elt F)} (w : sh.Idx → Elt F e)
    (S : Finset v.ty.Idx) (h : ∀ i, i ∉ S → f i = g i) :
    ∀ i, i ∉ S \ v.set → v.write (Elt F) f w Finset.univ i = v.write (Elt F) g w Finset.univ i := by
  intro i hi
  by_cases hv : i ∈ v.set
  · obtain ⟨j, -, rfl⟩ := Finset.mem_map.1 hv
    rw [View.write_emb_of_mem _ _ (Finset.mem_univ _), View.write_emb_of_mem _ _ (Finset.mem_univ _)]
  · rw [View.write_of_not_mem _ _ _ hv, View.write_of_not_mem _ _ _ hv]
    exact h i fun hS => hi (Finset.mem_sdiff.2 ⟨hS, hv⟩)

theorem mem_qR_set (g h : ℕ) (hb) (i : S2x512x128.Idx) :
    i ∈ (qM.access (qR g h hb) : View sig .tc _ _ _).set ↔ (i 0).val = g ∧ h ≤ (i 1).val ∧ (i 1).val < h + 128 := by
  have h2 : (i 2).val < 128 := (i 2).isLt
  show i ∈ ((View.whole cc0_scratch0).slice (qR g h hb)).set ↔ _
  rw [View.set_slice_whole, Rect.mem_set_unit]
  constructor
  · intro H
    have a := H 0; have b := H 1
    simp [S1x128x128] at a b
    omega
  · rintro ⟨a, b, d⟩ k
    match k with
    | 0 => show g ≤ (i 0).val ∧ (i 0).val < g + 1; omega
    | 1 => show h ≤ (i 1).val ∧ (i 1).val < h + 128; omega
    | 2 => show 0 ≤ (i 2).val ∧ (i 2).val < 0 + 128; omega

theorem qOver_eq (x : Vec F S1x128x1024 .f32) (wq : Vec F S1024x1024 .f32) (f : Vec F S2x512x128 .f32) : qOver x wq f = qC x wq := by
  have h0 : ∀ i, i ∉ (Finset.univ : Finset S2x512x128.Idx) → f i = (k0_pay13 : Vec F S2x512x128 .f32) i := fun i hi => absurd (Finset.mem_univ i) hi
  have h1 := write_agree (F := F) (qM.access (qR 0 0 inb_S2x512x128_S1x128x128_0_0_0)) (k0_pay4 x (wqCol wq 0 inb_S1024x1024_S1024x128_0_0)) _ h0
  have h2 := write_agree (F := F) (qM.access (qR 0 128 inb_S2x512x128_S1x128x128_0_128_0)) (k0_pay5 x (wqCol wq 128 inb_S1024x1024_S1024x128_0_128)) _ h1
  have h3 := write_agree (F := F) (qM.access (qR 0 256 inb_S2x512x128_S1x128x128_0_256_0)) (k0_pay7 (k0_pay6 x (wqCol wq 256 inb_S1024x1024_S1024x128_0_256)) (Scalar.ofBits .f32 0x3DB504F3#32)) _ h2
  have h4 := write_agree (F := F) (qM.access (qR 0 384 inb_S2x512x128_S1x128x128_0_384_0)) (k0_pay8 (k0_pay3 x) (wqCol wq 384 inb_S1024x1024_S1024x128_0_384)) _ h3
  have h5 := write_agree (F := F) (qM.access (qR 1 0 inb_S2x512x128_S1x128x128_1_0_0)) (k0_pay9 (k0_pay3 x) (wqCol wq 512 inb_S1024x1024_S1024x128_0_512)) _ h4
  have h6 := write_agree (F := F) (qM.access (qR 1 128 inb_S2x512x128_S1x128x128_1_128_0)) (k0_pay10 (k0_pay3 x) (wqCol wq 640 inb_S1024x1024_S1024x128_0_640)) _ h5
  have h7 := write_agree (F := F) (qM.access (qR 1 256 inb_S2x512x128_S1x128x128_1_256_0)) (k0_pay11 (k0_pay3 x) (wqCol wq 768 inb_S1024x1024_S1024x128_0_768)) _ h6
  have h8 := write_agree (F := F) (qM.access (qR 1 384 inb_S2x512x128_S1x128x128_1_384_0)) (k0_pay12 (k0_pay3 x) (wqCol wq 896 inb_S1024x1024_S1024x128_0_896)) _ h7
  funext i
  refine h8 i ?_
  have ha : (i 0).val < 2 := (i 0).isLt
  have hb : (i 1).val < 512 := (i 1).isLt
  simp only [Finset.mem_sdiff, not_and, not_not]
  intro hx
  obtain ⟨⟨⟨⟨⟨⟨⟨-, x1⟩, x2⟩, x3⟩, x4⟩, x5⟩, x6⟩, x7⟩ := hx
  rw [mem_qR_set] at *
  omega

end Cert.RingAttn

end
-- ==== Proof.Lanes.lean ====
/-
# The streaming copies

One lane is one streaming copy: a slot and head group of a streaming buffer, the semaphore that counts it, and the
share of the sharded array that the lane reads with. A lane is free (its semaphore at zero, its slot at any contents)
or flying (a chunk of the array is on its way to the slot). Starting a copy turns a free lane into a flying one;
waiting for it hands back the slot holding the chunk.
-/
module

public import proofs.«01_k».proof.Proof.State
public import Idealize.ShloMosaic.Lib.Pipeline.Value
public import Idealize.ShloMosaic.Lib.Tactic

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ UU ℕ

abbrev KvBuf := Memref sig .tc .vmem S4x2x1024x128 .f32
abbrev KvArr := Memref sig .tc .hbm S1x32768x2x128 .f32

/-- Chunk `t`, head group `g` of an array, as a slot holds it. -/
def chunkOf (a : KvArr) (A : a.view.ty.Contents (Elt F)) (t g : ℕ) (hg : g < 2) : Vec F S1x1x1024x128 .f32 :=
  shapeCast S1x1x1024x128 (shapeCast S1024x128 (a.view.readAt (Elt F) (aR t g hg).toLoadRect A) squeezes_S1x1024x1x128_S1024x128.numel_eq)
    squeezes_S1x1x1024x128_S1024x128.numel_eq.symm

theorem chunkOf_k (A : Vec F S1x32768x2x128 .f32) (t g : ℕ) (hg : g < 2) : chunkOf kA A t g hg = chunkV A t g hg := rfl
theorem chunkOf_v (A : Vec F S1x32768x2x128 .f32) (t g : ℕ) (hg : g < 2) : chunkOf vA A t g hg = chunkV A t g hg := rfl

abbrev laneShare (s g : ℕ) : PosShare TreeShare := Transfers.shareTokN fullShare (2 * s + g)

section Lane

variable (c : Dev nD) (b : KvBuf) (a : KvArr) (A : Buf (Elt F) (a.view.loc (c : Thread nD τ)))

def freeLane (s k g : ℕ) (hs : s < 4) (hk : k < 4) (hg : g < 2) : sProp 𝕄 :=
  iprop(semVal ((c : Thread nD τ), SemLoc.dma (kvS s k hs hk)) 0
    ∗ (∃ f : Buf (Elt F) ((slotM b s g hs hg).view.loc (c : Thread nD τ)), (slotM b s g hs hg).view.loc (c : Thread nD τ) ↦[(slotM b s g hs hg).view.set]{fullShare} f)
    ∗ (a.view.loc (c : Thread nD τ) ↦{laneShare s g} A))

/-- A slot that holds chunk `t`. -/
def landed (s g : ℕ) (hs : s < 4) (hg : g < 2) (t : ℕ) : sProp 𝕄 :=
  iprop(∃ f : Buf (Elt F) ((slotM b s g hs hg).view.loc (c : Thread nD τ)),
    ⌜b.view.readAt (Elt F) (kR s g hs hg).toLoadRect f = chunkOf a A t g hg⌝ ∗ (slotM b s g hs hg).view.loc (c : Thread nD τ) ↦[(slotM b s g hs hg).view.set]{fullShare} f)

def flyLane (s k g : ℕ) (hs : s < 4) (hk : k < 4) (hg : g < 2) (t : ℕ) : sProp 𝕄 :=
  iprop(Flight EC (c : Thread nD τ) (SemLoc.dma (kvS s k hs hk)) () NL
      iprop(landed c b a A s g hs hg t ∗ ((chunkM a t g hg).view.loc (c : Thread nD τ) ↦[(chunkM a t g hg).view.set]{laneShare s g} A))
    ∗ ((chunkM a t g hg).view.loc (c : Thread nD τ) ↦[Finset.univ \ (chunkM a t g hg).view.set]{laneShare s g} A))

def doneLane (s k g : ℕ) (hs : s < 4) (hk : k < 4) (hg : g < 2) (t : ℕ) : sProp 𝕄 :=
  iprop(semVal ((c : Thread nD τ), SemLoc.dma (kvS s k hs hk)) 0 ∗ landed c b a A s g hs hg t ∗ (a.view.loc (c : Thread nD τ) ↦{laneShare s g} A))

theorem done_free (s k g : ℕ) (hs : s < 4) (hk : k < 4) (hg : g < 2) (t : ℕ) :
    doneLane c b a A s k g hs hk hg t ⊢ freeLane c b a A s k g hs hk hg := by
  unfold doneLane freeLane landed
  iintro ⟨Hv, ⟨%f, %hf, Hs⟩, Ha⟩
  isplitl [Hv]; · iexact Hv
  isplitl [Hs]; · iexists f; iexact Hs
  iexact Ha

theorem slot_written (s g : ℕ) (hs : s < 4) (hg : g < 2) (t : ℕ) (f : Buf (Elt F) ((slotM b s g hs hg).view.loc (c : Thread nD τ))) :
    b.view.readAt (Elt F) (kR s g hs hg).toLoadRect
      ((slotM b s g hs hg).view.write (Elt F) f ((chunkM a t g hg).view.read (Elt F) A) Finset.univ) = chunkOf a A t g hg := by
  have h1 := View.read_write_univ (Val := Elt F) (v := (slotM b s g hs hg).view) f ((chunkM a t g hg).view.read (Elt F) A)
  have h2 := (Memref.read_squeeze_slice (Val := Elt F) b (kR s g hs hg) (fun _ => rfl) squeezes_S1x1x1024x128_S1024x128 squeezes_S1x1x1024x128_S1024x128.numel_eq
    ((slotM b s g hs hg).view.write (Elt F) f ((chunkM a t g hg).view.read (Elt F) A) Finset.univ)).symm.trans h1
  have h3 := Memref.read_squeeze_slice (Val := Elt F) a (aR t g hg) (fun _ => rfl) squeezes_S1x1024x1x128_S1024x128 squeezes_S1x1024x1x128_S1024x128.numel_eq A
  unfold chunkOf
  exact ((congrArg (fun w => shapeCast S1x1x1024x128 w squeezes_S1x1x1024x128_S1024x128.numel_eq.symm) (h2.trans h3)).symm.trans
    (shapeCast_shapeCast _ _ _)).symm

/-- Starting the copy of chunk `t`. -/
theorem wp_issue (s k g t : ℕ) (hs : s < 4) (hk : k < 4) (hg : g < 2)
    {offS : Fin 2 → ℕ} {offD offK : Fin 4 → ℕ} (eS : offS = ![s, k]) (eD : offD = ![s, g, 0, 0]) (eK : offK = ![0, 1024 * (t % 32), g, 0])
    (bS : ∀ x, offS x + S1x1.size x ≤ S4x4.size x) (bD : ∀ x, offD x + S1x1x1024x128.size x ≤ S4x2x1024x128.size x)
    (bK : ∀ x, offK x + S1x1024x1x128.size x ≤ S1x32768x2x128.size x) {hsrc hdst hsem}
    {α : Type} {Q : α → sProp 𝕄} {kk : PUnit → Prog (TpuEff nD τ sig (Elt F) Λ₀ .tc) α} :
    freeLane c b a A s k g hs hk hg
      ⊢ iprop((flyLane c b a A s k g hs hk hg t -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma ((a.slice (Rect.unit (s := S1x32768x2x128) offK S1x1024x1x128.size bK) (fun _ => rfl)).squeeze S1024x128 squeezes_S1x1024x1x128_S1024x128)
              (.here ((b.slice (Rect.unit (s := S4x2x1024x128) offD S1x1x1024x128.size bD) (fun _ => rfl)).squeeze S1024x128 squeezes_S1x1x1024x128_S1024x128))
              (.dma ((cc0_scratch6.slice (Rect.unit (s := S4x4) offS S1x1.size bS)).squeeze S_ squeezes_S1x1_S_).sem) hsrc hdst hsem) kk) Q) := by
  subst eS eD eK
  unfold freeLane flyLane
  iintro ⟨Hv, ⟨%f, Hs⟩, Ha⟩ Hk
  ihave Ha := (pointsTo_split_subset (Finset.subset_univ (chunkM a t g hg).view.set)).1 $$ Ha
  icases Ha with ⟨Ha, Hr⟩
  iapply (Transfers.wp_dmaLocal EC 𝒱₀ (c : Thread nD τ) none (src := chunkM a t g hg) (dst := slotM b s g hs hg)
    (q := laneShare s g) (fs := A) (fd := f) () NL rfl NL_pos (Finset.Subset.refl _)) $$ [Ha Hs Hv]
  · isplitl [Ha]; · iexact Ha
    isplitl [Hs]; · iexact Hs
    iexact Hv
  iintro Hf
  iapply Hk
  isplitl [Hf]
  · iapply (Transfers.Flight_mono EC (c : Thread nD τ) ?_) $$ Hf
    iintro ⟨Hs, Ha⟩
    isplitl [Hs]
    · unfold landed
      iexists _
      isplitr; swap; · iexact Hs
      ipureintro; exact slot_written c b a A s g hs hg t f
    iexact Ha
  iexact Hr

/-- Waiting for it. -/
theorem wp_landed (s k g t : ℕ) (hs : s < 4) (hk : k < 4) (hg : g < 2)
    {offS : Fin 2 → ℕ} (eS : offS = ![s, k]) (bS : ∀ x, offS x + S1x1.size x ≤ S4x4.size x)
    {sh' sh : Shape} {sp' sp : Space} {srcw : Memref sig .tc sp' sh' .f32} {dstw : Memref sig .tc sp sh .f32} (hN : dstw.view.dmaCredit = NL) {hsrc hdst}
    {O : CellTallies nD τ sig Unit} {W : Waits sig Unit}
    {α : Type} {Q : α → sProp 𝕄} {kk : PUnit → Prog (TpuEff nD τ sig (Elt F) Λ₀ .tc) α} :
    iprop(flyLane c b a A s k g hs hk hg t ∗ owes (c : Thread nD τ) O W ∗ MayWait (c : Thread nD τ) (SemLoc.dma (kvS s k hs hk)) () O)
      ⊢ iprop(((doneLane c b a A s k g hs hk hg t ∗ owes (c : Thread nD τ) O (insert (SemLoc.dma (kvS s k hs hk), ()) W))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 ((cc0_scratch6.slice (Rect.unit (s := S4x4) offS S1x1.size bS)).squeeze S_ squeezes_S1x1_S_).sem srcw dstw hsrc hdst) kk) Q) := by
  subst eS
  unfold flyLane doneLane
  iintro ⟨⟨Hf, Hr⟩, HO, Hm⟩ Hk
  iapply (Transfers.wp_waitLocalO EC 𝒱₀ (c : Thread nD τ) none () hN) $$ [Hf HO Hm]
  · isplitl [Hf]; · iexact Hf
    isplitl [HO]; · iexact HO
    iexact Hm
  iintro ⟨⟨Hl, Ha⟩, Hv, HO⟩
  ihave Ha := (pointsTo_split_subset (ℓ := (chunkM a t g hg).view.loc (c : Thread nD τ)) (q := laneShare s g) (f := A) (Finset.subset_univ (chunkM a t g hg).view.set)).2 $$ [Ha Hr]
  · isplitl [Ha]; · iexact Ha
    iexact Hr
  iapply Hk
  isplitr [HO]
  · isplitl [Hv]; · iexact Hv
    isplitl [Hl]; · iexact Hl
    iexact Ha
  iexact HO

/-- The same wait, spelt with a slot as its destination. -/
theorem wp_landed_slot (s k g t : ℕ) (hs : s < 4) (hk : k < 4) (hg : g < 2)
    {offS : Fin 2 → ℕ} {offD : Fin 4 → ℕ} (eS : offS = ![s, k]) (bS : ∀ x, offS x + S1x1.size x ≤ S4x4.size x)
    (bD : ∀ x, offD x + S1x1x1024x128.size x ≤ S4x2x1024x128.size x)
    {sh' : Shape} {sp' : Space} {srcw : Memref sig .tc sp' sh' .f32} {hsrc hdst}
    {O : CellTallies nD τ sig Unit} {W : Waits sig Unit}
    {α : Type} {Q : α → sProp 𝕄} {kk : PUnit → Prog (TpuEff nD τ sig (Elt F) Λ₀ .tc) α} :
    iprop(flyLane c b a A s k g hs hk hg t ∗ owes (c : Thread nD τ) O W ∗ MayWait (c : Thread nD τ) (SemLoc.dma (kvS s k hs hk)) () O)
      ⊢ iprop(((doneLane c b a A s k g hs hk hg t ∗ owes (c : Thread nD τ) O (insert (SemLoc.dma (kvS s k hs hk), ()) W))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 ((cc0_scratch6.slice (Rect.unit (s := S4x4) offS S1x1.size bS)).squeeze S_ squeezes_S1x1_S_).sem srcw
              ((b.slice (Rect.unit (s := S4x2x1024x128) offD S1x1x1024x128.size bD) (fun _ => rfl)).squeeze S1024x128 squeezes_S1x1x1024x128_S1024x128) hsrc hdst) kk) Q) :=
  wp_landed c b a A s k g t hs hk hg eS bS (dstw := ((b.slice (Rect.unit (s := S4x2x1024x128) offD S1x1x1024x128.size bD) (fun _ => rfl)).squeeze S1024x128 squeezes_S1x1x1024x128_S1024x128)) rfl

/-- Loading the landed chunk off its slot. -/
theorem wp_load_slot (s k g t : ℕ) (hs : s < 4) (hk : k < 4) (hg : g < 2)
    {off : Fin 4 → ℕ} (e : off = ![s, g, 0, 0]) (bO : ∀ x, off x + S1x1x1024x128.size x ≤ S4x2x1024x128.size x) {hl}
    {α : Type} {Q : α → sProp 𝕄} {kk : Vec F S1x1x1024x128 .f32 → Prog (TpuEff nD τ sig (Elt F) Λ₀ .tc) α} :
    doneLane c b a A s k g hs hk hg t
      ⊢ iprop((doneLane c b a A s k g hs hk hg t
            -∗ wp frame (wpE (defs₀ (F := F)) 𝒱₀ (c : Thread nD τ) none) Set.univ (kk (chunkOf a A t g hg)) Q)
          -∗ wp frame (wpE (defs₀ (F := F)) 𝒱₀ (c : Thread nD τ) none) Set.univ
            (.op (.load b (Rect.unit (s := S4x2x1024x128) off S1x1x1024x128.size bO).toLoadRect hl) kk) Q) := by
  subst e
  unfold doneLane landed
  iintro ⟨Hv, ⟨%f, %hf, Hs⟩, Ha⟩ Hk
  iapply (wp_load 𝒱₀ (c : Thread nD τ) none Set.univ (m := b) (r := (kR s g hs hg).toLoadRect) (S := (slotM b s g hs hg).view.set) (f := f)
    (by
      rw [View.setOn, ← View.set_slice]
      exact (View.set_reshape (v := b.view.slice (kR s g hs hg)) (s' := S1024x128) squeezes_S1x1x1024x128_S1024x128.numel_eq).symm.subset)) $$ Hs
  iintro Hs
  rw [hf]
  iapply Hk
  isplitl [Hv]; · iexact Hv
  isplitl [Hs]
  · iexists f
    isplitr; · ipureintro; exact hf
    iexact Hs
  iexact Ha

end Lane

end Cert.RingAttn

end
-- ==== Proof.Slots.lean ====
/-
# The four slots of the streaming buffers

A slot is four lanes: the two head groups of `K` and of `V`. It is free, filling with a chunk, or full.
-/
module

public import proofs.«01_k».proof.Proof.Lanes

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The program's points-to of a whole buffer of core `c`. -/
abbrev pts (c : Dev nD) (b : Ref sig .tc) (f : b.ty.Contents (Elt F)) : sProp 𝕄 :=
  (((c : Thread nD τ).loc b) ↦{fullShare} (f : Buf (Elt F) ((c : Thread nD τ).loc b)))

variable (c : Dev nD) (K V : Vec F S1x32768x2x128 .f32)

def freeSlot (s : ℕ) (hs : s < 4) : sProp 𝕄 :=
  iprop(freeLane c kB kA K s 0 0 hs (by decide) (by decide) ∗ freeLane c kB kA K s 1 1 hs (by decide) (by decide)
    ∗ freeLane c vB vA V s 2 0 hs (by decide) (by decide) ∗ freeLane c vB vA V s 3 1 hs (by decide) (by decide))
def flySlot (s : ℕ) (hs : s < 4) (t : ℕ) : sProp 𝕄 :=
  iprop(flyLane c kB kA K s 0 0 hs (by decide) (by decide) t ∗ flyLane c kB kA K s 1 1 hs (by decide) (by decide) t
    ∗ flyLane c vB vA V s 2 0 hs (by decide) (by decide) t ∗ flyLane c vB vA V s 3 1 hs (by decide) (by decide) t)
def doneSlot (s : ℕ) (hs : s < 4) (t : ℕ) : sProp 𝕄 :=
  iprop(doneLane c kB kA K s 0 0 hs (by decide) (by decide) t ∗ doneLane c kB kA K s 1 1 hs (by decide) (by decide) t
    ∗ doneLane c vB vA V s 2 0 hs (by decide) (by decide) t ∗ doneLane c vB vA V s 3 1 hs (by decide) (by decide) t)

theorem doneSlot_free (s : ℕ) (hs : s < 4) (t : ℕ) : doneSlot c K V s hs t ⊢ freeSlot c K V s hs := by
  unfold doneSlot freeSlot
  iintro ⟨H0, H1, H2, H3⟩
  isplitl [H0]; · iapply (done_free c kB kA K s 0 0 hs _ _ t) $$ H0
  isplitl [H1]; · iapply (done_free c kB kA K s 1 1 hs _ _ t) $$ H1
  isplitl [H2]; · iapply (done_free c vB vA V s 2 0 hs _ _ t) $$ H2
  iapply (done_free c vB vA V s 3 1 hs _ _ t) $$ H3

end Cert.RingAttn

end
-- ==== Proof.BodyInit.lean ====
/-
# The first grid point's initialisation

The copies of chunks 0 and 1 start, the scaled queries are stored, and the accumulators get their start values.
-/
module

public import proofs.«01_k».proof.Proof.Slots

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem z2 : (![0, 0] : Fin 2 → ℕ) = fun _ => 0 := funext fun a => by fin_cases a <;> rfl
theorem z3 : (![0, 0, 0] : Fin 3 → ℕ) = fun _ => 0 := funext fun a => by fin_cases a <;> rfl

theorem rd_x (x : Vec F S1x128x1024 .f32) :
    xM.view.readAt (Elt F) (Rect.unit (s := S1x128x1024) ![0, 0, 0] S1x128x1024.size inb_S1x128x1024_S1x128x1024_0_0_0).toLoadRect x = x :=
  Memref.readAt_unit_zero (Elt F) cc0_stg0_0 z3 _ x
theorem wr_o (f w : Vec F S2x512x128 .f32) :
    (oM.access (Rect.unit (s := S2x512x128) ![0, 0, 0] S2x512x128.size inb_S2x512x128_S2x512x128_0_0_0) : View sig .tc _ _ _).write (Elt F) f w Finset.univ = w :=
  Memref.write_access_unit_zero_univ (Elt F) cc0_scratch1 z3 _ f w
theorem wr_m (f w : Vec F S2x512x1 .f32) :
    (mM.access (Rect.unit (s := S2x512x1) ![0, 0, 0] S2x512x1.size inb_S2x512x1_S2x512x1_0_0_0) : View sig .tc _ _ _).write (Elt F) f w Finset.univ = w :=
  Memref.write_access_unit_zero_univ (Elt F) cc0_scratch2 z3 _ f w
theorem wr_l (f w : Vec F S2x512x1 .f32) :
    (lM.access (Rect.unit (s := S2x512x1) ![0, 0, 0] S2x512x1.size inb_S2x512x1_S2x512x1_0_0_0) : View sig .tc _ _ _).write (Elt F) f w Finset.univ = w :=
  Memref.write_access_unit_zero_univ (Elt F) cc0_scratch3 z3 _ f w

variable (c : Dev nD) (K V : Vec F S1x32768x2x128 .f32) (x : Vec F S1x128x1024 .f32) (wq : Vec F S1024x1024 .f32)

def initPre : sProp 𝕄 :=
  iprop(freeSlot c K V 0 (by decide) ∗ freeSlot c K V 1 (by decide)
    ∗ pts c cc0_stg0_0 x ∗ pts c cc0_stg1_0 wq
    ∗ (∃ f : Vec F S2x512x128 .f32, pts c cc0_scratch0 f) ∗ (∃ f : Vec F S2x512x128 .f32, pts c cc0_scratch1 f)
    ∗ (∃ f : Vec F S2x512x1 .f32, pts c cc0_scratch2 f) ∗ (∃ f : Vec F S2x512x1 .f32, pts c cc0_scratch3 f))

def initPost : sProp 𝕄 :=
  iprop(flySlot c K V 0 (by decide) 0 ∗ flySlot c K V 1 (by decide) 1
    ∗ pts c cc0_stg0_0 x ∗ pts c cc0_stg1_0 wq
    ∗ pts c cc0_scratch0 (qC x wq) ∗ pts c cc0_scratch1 (st0 (F := F)).o
    ∗ pts c cc0_scratch2 (st0 (F := F)).m ∗ pts c cc0_scratch3 (st0 (F := F)).l)

set_option maxHeartbeats 2000000 in
theorem wp_init (i : grid0.Coords) (w6 : outM.IsWhole) (Kt : PUnit → sProp 𝕄) {W1 W2 W3 W4 W5 W6 W7 W8 W9 W10 W11 W12 W13} :
    iprop(initPre c K V x wq ∗ (initPost c K V x wq -∗ Kt ⟨⟩))
      ⊢ wp frame (wpE (defs₀ (F := F)) 𝒱₀ (c : Thread nD τ) none) Set.univ
          (k0_part5 i xM W1 wqM W2 woM W3 kA W4 vA W5 outM W6 qM W7 oM W8 mM W9 lM W10 kB W11 vB W12 cc0_scratch6 cB W13 cc0_scratch8 cc0_scratch9) Kt := by
  rw [k0_part5_eq_skeleton]; unfold k0_part5_skel
  simp only [k0_part1_eq_skeleton, k0_part2_eq_skeleton, k0_part3_eq_skeleton, k0_part4_eq_skeleton,
    k0_part1_skel, k0_part2_skel, k0_part3_skel, k0_part4_skel, Prog.lift, Prog.bind_op, Prog.bind_ret, Prog.pure_eq_ret]
  unfold initPre freeSlot
  iintro ⟨⟨⟨A0, A1, A2, A3⟩, ⟨B0, B1, B2, B3⟩, Hx, Hwq, ⟨%fq, Hq⟩, ⟨%fo, Ho⟩, ⟨%fm, Hm⟩, ⟨%fl, Hl⟩⟩, Hk⟩
  iapply (wp_issue c kB kA K 0 0 0 0 _ _ _ rfl rfl rfl) $$ A0; iintro A0
  iapply (wp_issue c kB kA K 0 1 1 0 _ _ _ rfl rfl rfl) $$ A1; iintro A1
  iapply (wp_issue c vB vA V 0 2 0 0 _ _ _ rfl rfl rfl) $$ A2; iintro A2
  iapply (wp_issue c vB vA V 0 3 1 0 _ _ _ rfl rfl rfl) $$ A3; iintro A3
  iapply (wp_issue c kB kA K 1 0 0 1 _ _ _ rfl rfl rfl) $$ B0; iintro B0
  iapply (wp_issue c kB kA K 1 1 1 1 _ _ _ rfl rfl rfl) $$ B1; iintro B1
  iapply (wp_issue c vB vA V 1 2 0 1 _ _ _ rfl rfl rfl) $$ B2; iintro B2
  iapply (wp_issue c vB vA V 1 3 1 1 _ _ _ rfl rfl rfl) $$ B3; iintro B3
  sl_steps
  iapply Hk
  unfold initPost flySlot
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [Hx]; · iexact Hx
  isplitl [Hwq]; · iexact Hwq
  isplitl [Hq]
  · exact (Entails.of_eq (congrArg (pts c cc0_scratch0) ((qOver_eq (xM.view.readAt (Elt F)
      (Rect.unit (s := S1x128x1024) ![0, 0, 0] S1x128x1024.size inb_S1x128x1024_S1x128x1024_0_0_0).toLoadRect x) wq fq).trans (by rw [rd_x]))))
  isplitl [Ho]
  · iapply (Entails.of_eq (congrArg (pts c cc0_scratch1) (wr_o fo k0_pay13))) $$ Ho
  isplitl [Hm]
  · iapply (Entails.of_eq (congrArg (pts c cc0_scratch2) (wr_m fm k0_pay15))) $$ Hm
  iapply (Entails.of_eq (congrArg (pts c cc0_scratch3) (wr_l fl k0_pay14))) $$ Hl

end Cert.RingAttn

end
-- ==== Proof.BodyChunk.lean ====
/-
# One grid point on one chunk

What a grid point does before the ring: start (at the first point), start the copies of the chunk two ahead, wait for
its own chunk, and update the accumulators of both head groups.
-/
module

public import proofs.«01_k».proof.Proof.BodyInit

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (K V : Vec F S1x32768x2x128 .f32) (x : Vec F S1x128x1024 .f32) (wq : Vec F S1024x1024 .f32)

theorem m4 (t : ℕ) : t % 4 < 4 := Nat.mod_lt t (by decide)

/-- Chunk `t`'s slot, free; and filling with chunk `t` if there is one, else free. -/
def freeAt (t : ℕ) : sProp 𝕄 := freeSlot c K V (t % 4) (m4 t)
def fillAt (t : ℕ) : sProp 𝕄 := if t < 32 then flySlot c K V (t % 4) (m4 t) t else freeAt c K V t
def doneAt (t : ℕ) : sProp 𝕄 := doneSlot c K V (t % 4) (m4 t) t

theorem freeAt_add (t : ℕ) : freeAt c K V (t + 4) = freeAt c K V t := by
  unfold freeAt; simp only [Nat.add_mod_right]

theorem fillAt_of_lt {t : ℕ} (h : t < 32) : fillAt c K V t = flySlot c K V (t % 4) (m4 t) t := if_pos h
theorem fillAt_of_ge {t : ℕ} (h : ¬ t < 32) : fillAt c K V t = freeAt c K V t := if_neg h

theorem freeAt_0 : freeAt c K V 0 = freeSlot c K V 0 (by decide) := rfl
theorem freeAt_1 : freeAt c K V 1 = freeSlot c K V 1 (by decide) := rfl
theorem fillAt_0 : fillAt c K V 0 = flySlot c K V 0 (by decide) 0 := if_pos (by decide)
theorem fillAt_1 : fillAt c K V (0 + 1) = flySlot c K V 1 (by decide) 1 := if_pos (by decide)

/-- The accumulators and the queries after `n` chunks. -/
def accAt (n : ℕ) : sProp 𝕄 :=
  iprop(pts c cc0_scratch0 (qC x wq) ∗ pts c cc0_scratch1 (stAt (qC x wq) K V n).o
    ∗ pts c cc0_scratch2 (stAt (qC x wq) K V n).m ∗ pts c cc0_scratch3 (stAt (qC x wq) K V n).l)

/-- The four at any contents. -/
def accAny : sProp 𝕄 :=
  iprop((∃ f : Vec F S2x512x128 .f32, pts c cc0_scratch0 f) ∗ (∃ f : Vec F S2x512x128 .f32, pts c cc0_scratch1 f)
    ∗ (∃ f : Vec F S2x512x1 .f32, pts c cc0_scratch2 f) ∗ (∃ f : Vec F S2x512x1 .f32, pts c cc0_scratch3 f))

/-- Before any grid point's work: the slots free, the accumulators at any contents. -/
def coldLocal : sProp 𝕄 :=
  iprop(freeAt c K V 0 ∗ freeAt c K V 1 ∗ freeAt c K V 2 ∗ freeAt c K V 3 ∗ accAny c)
/-- After `t` chunks, once started. -/
def warmLocal (t : ℕ) : sProp 𝕄 :=
  iprop(fillAt c K V t ∗ fillAt c K V (t + 1) ∗ freeAt c K V (t + 2) ∗ freeAt c K V (t + 3) ∗ accAt c K V x wq t)
/-- What grid point `t` begins with. -/
def localAt (t : ℕ) : sProp 𝕄 := if t = 0 then coldLocal c K V else warmLocal c K V x wq t

section Steps

variable (i : grid0.Coords) {W1 : xM.IsWhole} {W2 : wqM.IsWhole} {W3 : woM.IsWhole} {W4 : kA.IsWhole} {W5 : vA.IsWhole} {W6 : outM.IsWhole}
  {W7 : qM.IsWhole} {W8 : oM.IsWhole} {W9 : mM.IsWhole} {W10 : lM.IsWhole} {W11 : kB.IsWhole} {W12 : vB.IsWhole} {W13 : cB.IsWhole}

theorem cond1_iff : ∀ i : grid0.Coords, Scalar.cmpi .ne (Scalar.extui (Scalar.cmpi .eq (BitVec.ofNat 32 (i 0).val) 0#32) : BitVec 32) 0#32 = 1#1 ↔ (i 0).val = 0 := by decide +kernel

/-- The first point's branch. -/
theorem wp_branch1 (Kt : PUnit → sProp 𝕄) (v2 : BitVec 1) (hv : v2 = 1#1 ↔ (i 0).val = 0) :
    iprop(localAt c K V x wq (i 0).val ∗ pts c cc0_stg0_0 x ∗ pts c cc0_stg1_0 wq
        ∗ ((warmLocal c K V x wq (i 0).val ∗ pts c cc0_stg0_0 x ∗ pts c cc0_stg1_0 wq) -∗ Kt ⟨⟩))
      ⊢ wp frame (wpE (defs₀ (F := F)) 𝒱₀ (c : Thread nD τ) none) Set.univ
          (if k0_h1 : v2 = 1#1 then (do
            k0_part5 i xM W1 wqM W2 woM W3 kA W4 vA W5 outM W6 qM W7 oM W8 mM W9 lM W10 kB W11 vB W12 cc0_scratch6 cB W13 cc0_scratch8 cc0_scratch9
            pure ⟨⟩) else (do pure ⟨⟩)) Kt := by
  by_cases h : (i 0).val = 0
  · rw [dif_pos (hv.2 h), wp_bind, h]
    unfold localAt; rw [if_pos rfl]
    unfold coldLocal accAny; rw [freeAt_0, freeAt_1]
    iintro ⟨⟨H0, H1, H2, H3, Hq, Ho, Hm, Hl⟩, Hx, Hw, Hk⟩
    iapply (wp_init c K V x wq i W6)
    unfold initPre
    isplitr [Hk H2 H3]
    · isplitl [H0]; · iexact H0
      isplitl [H1]; · iexact H1
      isplitl [Hx]; · iexact Hx
      isplitl [Hw]; · iexact Hw
      isplitl [Hq]; · iexact Hq
      isplitl [Ho]; · iexact Ho
      isplitl [Hm]; · iexact Hm
      iexact Hl
    unfold initPost
    iintro ⟨H0, H1, Hx, Hw, Hq, Ho, Hm, Hl⟩
    rw [Prog.pure_eq_ret, wp_ret]; imodintro
    iapply Hk
    unfold warmLocal accAt
    rw [fillAt_0, fillAt_1]
    isplitr [Hx Hw]
    · isplitl [H0]; · iexact H0
      isplitl [H1]; · iexact H1
      isplitl [H2]; · iexact H2
      isplitl [H3]; · iexact H3
      isplitl [Hq]; · iexact Hq
      isplitl [Ho]; · iexact Ho
      isplitl [Hm]; · iexact Hm
      iexact Hl
    isplitl [Hx]; · iexact Hx
    iexact Hw
  · rw [dif_neg fun h' => h (hv.1 h'), Prog.pure_eq_ret, wp_ret]
    unfold localAt; rw [if_neg h]
    iintro ⟨H, Hx, Hw, Hk⟩
    imodintro
    iapply Hk
    isplitl [H]; · iexact H
    isplitl [Hx]; · iexact Hx
    iexact Hw

theorem off3_eq (h : k0_cond2 i = 1#1) : k0_off3 i = ![0, 1024 * (((i 0).val + 2) % 32), 0, 0] :=
  (show ∀ i : grid0.Coords, k0_cond2 i = 1#1 → k0_off3 i = ![0, 1024 * (((i 0).val + 2) % 32), 0, 0] by decide +kernel) i h
theorem off6_eq (h : k0_cond2 i = 1#1) : k0_off6 i = ![0, 1024 * (((i 0).val + 2) % 32), 1, 0] :=
  (show ∀ i : grid0.Coords, k0_cond2 i = 1#1 → k0_off6 i = ![0, 1024 * (((i 0).val + 2) % 32), 1, 0] by decide +kernel) i h

/-- The same with a continuation, as the body spells it: the continuation once in either branch. -/
theorem wp_branch1_then {α : Type} (k : Prog (TpuEff nD τ sig (Elt F) Λ₀ .tc) α) (Kt : α → sProp 𝕄) (v2 : BitVec 1) (hv : v2 = 1#1 ↔ (i 0).val = 0) :
    iprop(localAt c K V x wq (i 0).val ∗ pts c cc0_stg0_0 x ∗ pts c cc0_stg1_0 wq
        ∗ ((warmLocal c K V x wq (i 0).val ∗ pts c cc0_stg0_0 x ∗ pts c cc0_stg1_0 wq)
            -∗ wp frame (wpE (defs₀ (F := F)) 𝒱₀ (c : Thread nD τ) none) Set.univ k Kt))
      ⊢ wp frame (wpE (defs₀ (F := F)) 𝒱₀ (c : Thread nD τ) none) Set.univ
          (if k0_h1 : v2 = 1#1 then (do
            k0_part5 i xM W1 wqM W2 woM W3 kA W4 vA W5 outM W6 qM W7 oM W8 mM W9 lM W10 kB W11 vB W12 cc0_scratch6 cB W13 cc0_scratch8 cc0_scratch9
            k) else k) Kt := by
  have e : (if k0_h1 : v2 = 1#1 then (do
            k0_part5 i xM W1 wqM W2 woM W3 kA W4 vA W5 outM W6 qM W7 oM W8 mM W9 lM W10 kB W11 vB W12 cc0_scratch6 cB W13 cc0_scratch8 cc0_scratch9
            k) else k : Prog (TpuEff nD τ sig (Elt F) Λ₀ .tc) α)
      = ((if k0_h1 : v2 = 1#1 then (do
            k0_part5 i xM W1 wqM W2 woM W3 kA W4 vA W5 outM W6 qM W7 oM W8 mM W9 lM W10 kB W11 vB W12 cc0_scratch6 cB W13 cc0_scratch8 cc0_scratch9
            pure ⟨⟩) else (do pure ⟨⟩) : Prog (TpuEff nD τ sig (Elt F) Λ₀ .tc) PUnit) >>= fun _ => k) := by
    by_cases h : v2 = 1#1
    · rw [dif_pos h, dif_pos h]; exact (Prog.bind_assoc _ (fun _ => Prog.ret PUnit.unit) (fun _ => k)).symm
    · rw [dif_neg h, dif_neg h]; rfl
  rw [e]
  exact (wp_branch1 c K V x wq i (fun _ => wp frame (wpE (defs₀ (F := F)) 𝒱₀ (c : Thread nD τ) none) Set.univ k Kt) v2 hv).trans
    (Entails.of_eq (wp_bind ..).symm)

/-- The copies of the chunk two ahead, then `k`. -/
theorem wp_branch2 (a0 : BitVec 32) {α : Type} (k : Prog (TpuEff nD τ sig (Elt F) Λ₀ .tc) α) (Kt : α → sProp 𝕄) (ht : (i 0).val < 32) :
    iprop(freeAt c K V ((i 0).val + 2) ∗ (fillAt c K V ((i 0).val + 2) -∗ wp frame (wpE (defs₀ (F := F)) 𝒱₀ (c : Thread nD τ) none) Set.univ k Kt))
      ⊢ wp frame (wpE (defs₀ (F := F)) 𝒱₀ (c : Thread nD τ) none) Set.univ
          (if k0_h2 : k0_cond2 i = 1#1 then (do
            k0_part6 i xM W1 wqM W2 woM W3 kA W4 vA W5 outM W6 qM W7 oM W8 mM W9 lM W10 kB W11 vB W12 cc0_scratch6 cB W13 cc0_scratch8 cc0_scratch9 a0 k0_h2
            .op (.enqueueDma ((vA.slice (Rect.unit (s := S1x32768x2x128) (k0_off3 i) S1x1024x1x128.size (k0_off3_inb i k0_h2)) (fun _ => rfl)).squeeze S1024x128 squeezes_S1x1024x1x128_S1024x128)
              (.here ((vB.slice (Rect.unit (s := S4x2x1024x128) (k0_off2 i) S1x1x1024x128.size (k0_off2_inb i k0_h2)) (fun _ => rfl)).squeeze S1024x128 squeezes_S1x1x1024x128_S1024x128))
              (.dma ((cc0_scratch6.slice (Rect.unit (s := S4x4) (k0_off7 i) S1x1.size (k0_off7_inb i k0_h2))).squeeze S_ squeezes_S1x1_S_).sem)
              ((View.wordExact_bits rfl).reshape _ _) ((View.wordExact_bits rfl).reshape _ _) ⟨Or.inl rfl, trivial⟩) fun _ =>
            .op (.enqueueDma ((vA.slice (Rect.unit (s := S1x32768x2x128) (k0_off6 i) S1x1024x1x128.size (k0_off6_inb i k0_h2)) (fun _ => rfl)).squeeze S1024x128 squeezes_S1x1024x1x128_S1024x128)
              (.here ((vB.slice (Rect.unit (s := S4x2x1024x128) (k0_off5 i) S1x1x1024x128.size (k0_off5_inb i k0_h2)) (fun _ => rfl)).squeeze S1024x128 squeezes_S1x1x1024x128_S1024x128))
              (.dma ((cc0_scratch6.slice (Rect.unit (s := S4x4) (k0_off8 i) S1x1.size (k0_off8_inb i k0_h2))).squeeze S_ squeezes_S1x1_S_).sem)
              ((View.wordExact_bits rfl).reshape _ _) ((View.wordExact_bits rfl).reshape _ _) ⟨Or.inl rfl, trivial⟩) fun _ =>
            k) else k) Kt := by
  by_cases h : k0_cond2 i = 1#1
  · rw [dif_pos h, fillAt_of_lt c K V ((cond2_iff i).1 h), k0_part6_eq_skeleton]
    simp only [k0_part6_skel, Prog.lift, Prog.bind_op, Prog.bind_ret, Prog.pure_eq_ret]
    unfold freeAt freeSlot
    iintro ⟨⟨A0, A1, A2, A3⟩, Hk⟩
    iapply (wp_issue c kB kA K _ 0 0 ((i 0).val + 2) _ _ _ (off1_eq i) (off2_eq i) (off3_eq i h)) $$ A0; iintro A0
    iapply (wp_issue c kB kA K _ 1 1 ((i 0).val + 2) _ _ _ (off4_eq i) (off5_eq i) (off6_eq i h)) $$ A1; iintro A1
    iapply (wp_issue c vB vA V _ 2 0 ((i 0).val + 2) _ _ _ (off7_eq i) (off2_eq i) (off3_eq i h)) $$ A2; iintro A2
    iapply (wp_issue c vB vA V _ 3 1 ((i 0).val + 2) _ _ _ (off8_eq i) (off5_eq i) (off6_eq i h)) $$ A3; iintro A3
    iapply Hk
    unfold flySlot
    isplitl [A0]; · iexact A0
    isplitl [A1]; · iexact A1
    isplitl [A2]; · iexact A2
    iexact A3
  · rw [dif_neg h, fillAt_of_ge c K V (fun h' => h ((cond2_iff i).2 h'))]
    iintro ⟨H, Hk⟩
    iapply Hk $$ H

end Steps

end Cert.RingAttn

end
-- ==== Proof.Sched.lean ====
/-
# The ring protocol

One round. A device tells both neighbours that it has arrived; what it tells the previous one carries its three landing
slabs, so that whoever has heard from the next device may write there. Then three hops: slab `h` is copied into the next
device's slab `h + 1`. The landing of hop `h` carries the slab, known to hold the message of the device it started from.
-/
module

public import proofs.«01_k».proof.Proof.State

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slabs and messages -/

/-- Slab `h` of device `c`'s exchange buffer, contents read off `f`. -/
def slab (c : Dev nD) (h : ℕ) (hh : h < 4) (f : Vec F S4x2x512x256 .f32) : sProp 𝕄 :=
  (slabM h hh).view.loc (c : Thread nD τ) ↦[(slabM h hh).view.set]{fullShare} f

instance slab_storable (c : Dev nD) (h : ℕ) (hh : h < 4) (f : Vec F S4x2x512x256 .f32) : BI.Storable (upEmb : UEmb _ 𝕄) (slab (F := F) c h hh f) := by
  unfold slab; infer_instance

theorem inb_co (h : ℕ) (hh : h < 4) : ∀ a, (![h, 0, 0, 0] : Fin 4 → ℕ) a + S1x2x512x128.size a ≤ S4x2x512x256.size a := by
  intro a; match a with
  | 0 => show h + 1 ≤ 4; omega
  | 1 => exact Nat.le_refl _
  | 2 => exact Nat.le_refl _
  | 3 => show 0 + 128 ≤ 256; omega
theorem inb_cs (h j : ℕ) (hh : h < 4) (hj : j < 256) : ∀ a, (![h, 0, 0, j] : Fin 4 → ℕ) a + S1x2x512x1.size a ≤ S4x2x512x256.size a := by
  intro a; match a with
  | 0 => show h + 1 ≤ 4; omega
  | 1 => exact Nat.le_refl _
  | 2 => exact Nat.le_refl _
  | 3 => show j + 1 ≤ 256; omega

/-- The columns of slab `h` that hold the output, and one column. -/
abbrev coR (h : ℕ) (hh : h < 4) : Rect S4x2x512x256 := Rect.unit (s := S4x2x512x256) ![h, 0, 0, 0] S1x2x512x128.size (inb_co h hh)
abbrev csR (h j : ℕ) (hh : h < 4) (hj : j < 256) : Rect S4x2x512x256 := Rect.unit (s := S4x2x512x256) ![h, 0, 0, j] S1x2x512x1.size (inb_cs h j hh hj)

abbrev rdCO (h : ℕ) (hh : h < 4) (f : Vec F S4x2x512x256 .f32) : Vec F S1x2x512x128 .f32 := cB.view.readAt (Elt F) (coR h hh).toLoadRect f
abbrev rdCS (h j : ℕ) (hh : h < 4) (hj : j < 256) (f : Vec F S4x2x512x256 .f32) : Vec F S1x2x512x1 .f32 := cB.view.readAt (Elt F) (csR h j hh hj).toLoadRect f

/-- Slab `h` of `f` holds the message `p`. -/
def holds (h : ℕ) (hh : h < 4) (p : Msg F) (f : Vec F S4x2x512x256 .f32) : Prop :=
  rdCO h hh f = p.o ∧ rdCS h 128 hh (by decide) f = p.m ∧ rdCS h 129 hh (by decide) f = p.l

/-! ## The schedule -/

/-- The device that a message came from after `h` hops. -/
def back (c : Dev nD) : ℕ → Dev nD
  | 0 => c
  | h + 1 => prv (back c h)

theorem back_nxt (c : Dev nD) : ∀ h, back (nxt c) (h + 1) = back c h
  | 0 => prv_nxt c
  | h + 1 => congrArg prv (back_nxt c h)

variable (M : Dev nD → Msg F)

/-- What the landing of hop `h` on device `c` carries. -/
def landPay (c : Dev nD) (h : ℕ) (hh : h < 4) : sProp 𝕄 := iprop(∃ f : Vec F S4x2x512x256 .f32, ⌜holds h hh (M (back c h)) f⌝ ∗ slab c h hh f)
/-- What the end of the sending of slab `h` gives back. -/
def sentPay (c : Dev nD) (h : ℕ) (hh : h < 4) : sProp 𝕄 := iprop(∃ f : Vec F S4x2x512x256 .f32, slab c h hh f)
/-- What the next device's arrival carries. -/
def arrivePay (c : Dev nD) : sProp 𝕄 :=
  iprop((sentPay (F := F) (nxt c) 1 (by decide) ∗ sentPay (F := F) (nxt c) 2 (by decide) ∗ sentPay (F := F) (nxt c) 3 (by decide))
    ∗ reached ER (recvCell (nxt c) 1 (by decide)) 0 ∗ reached ER (recvCell (nxt c) 2 (by decide)) 0 ∗ reached ER (recvCell (nxt c) 3 (by decide)) 0)

/-- By the number of the semaphore: the ends of sending are 20, 21, 22, the landings 25, 26, 27. -/
def hopPay (c : Dev nD) : ℕ → sProp 𝕄
  | 20 => sentPay c 0 (by decide)
  | 21 => sentPay c 1 (by decide)
  | 22 => sentPay c 2 (by decide)
  | 25 => landPay M c 1 (by decide)
  | 26 => landPay M c 2 (by decide)
  | 27 => landPay M c 3 (by decide)
  | _ => iprop(emp)

def isHop (n : ℕ) : Prop := n = 20 ∨ n = 21 ∨ n = 22 ∨ n = 25 ∨ n = 26 ∨ n = 27
instance (n : ℕ) : Decidable (isHop n) := by unfold isHop; infer_instance

def dutiesOf : SemLoc sig → Finset Bool
  | .reg q => if q = barS then Finset.univ else ∅
  | .dma q => if isHop q.val then {false} else ∅
def amountOf' : SemLoc sig → ℕ
  | .reg _ => 1
  | .dma _ => NR
def payOf (c : Dev nD) (d : Bool) : SemLoc sig → sProp 𝕄
  | .reg _ => if d then arrivePay c else iprop(emp)
  | .dma q => hopPay M c q.val

/-- One round, round 0: the barrier cell has the duties `false` (from the previous device) and `true` (from the next) of
    one unit each, a cell of a hop the duty `false` of a slab's credit. -/
def ringRd : Rounds.Schedule (GSem nD τ sig) Bool 𝕄 where
  duties g r := if r = 0 ∧ g.1.2 = .tc then dutiesOf g.2 else ∅
  unitless _ := False
  amount g _ _ := amountOf' g.2
  payload g _ d := payOf M g.1.1 d g.2
  amount_pos g _ _ _ := by
    show 0 < amountOf' g.2
    cases g.2
    · exact Nat.one_pos
    · exact NR_pos

instance ringRd_payload_storable (g : GSem nD τ sig) (r : ℕ) (d : Bool) :
    BI.Storable (upEmb : UEmb _ 𝕄) ((ringRd (F := F) M).payload g r d) := by
  show BI.Storable upEmb (payOf M g.1.1 d g.2)
  cases g.2 with
  | reg q => unfold payOf arrivePay sentPay; dsimp only; split <;> infer_instance
  | dma q => unfold payOf hopPay sentPay landPay; dsimp only; split <;> infer_instance

section Cells
variable (c : Dev nD)

omit [FloatOps F] in
theorem duties_later (g : GSem nD τ sig) : ∀ r, 1 ≤ r → (ringRd (F := F) M).duties g r = ∅ :=
  fun r hr => if_neg fun h => by omega

theorem duties_bar : (ringRd (F := F) M).duties (barCell c) 0 = Finset.univ := by
  dsimp only [ringRd, dutiesOf]
  rw [if_pos ⟨rfl, rfl⟩]; exact if_pos rfl

theorem send_hop (h : Fin 3) : isHop (sendS h.val (by omega)).val := by revert h; decide +kernel
theorem recv_hop (h : Fin 3) : isHop (recvS (h.val + 1) (by omega)).val := by revert h; decide +kernel

theorem duties_send (h : Fin 3) : (ringRd (F := F) M).duties (sendCell c h.val (by omega)) 0 = {false} := by
  dsimp only [ringRd, dutiesOf]
  rw [if_pos ⟨rfl, rfl⟩]; exact if_pos (send_hop h)
theorem duties_recv (h : Fin 3) : (ringRd (F := F) M).duties (recvCell c (h.val + 1) (by omega)) 0 = {false} := by
  dsimp only [ringRd, dutiesOf]
  rw [if_pos ⟨rfl, rfl⟩]; exact if_pos (recv_hop h)

theorem pay_send (h : Fin 3) (d : Bool) : (ringRd (F := F) M).payload (sendCell c h.val (by omega)) 0 d = sentPay c h.val (by omega) := by
  show hopPay M c (sendS h.val _).val = _
  rw [show (sendS h.val (by omega)).val = 20 + h.val from congrArg Fin.val (sendS_val ⟨h.val, by omega⟩)]
  match h with
  | 0 => rfl
  | 1 => rfl
  | 2 => rfl
theorem pay_recv (h : Fin 3) (d : Bool) : (ringRd (F := F) M).payload (recvCell c (h.val + 1) (by omega)) 0 d = landPay M c (h.val + 1) (by omega) := by
  show hopPay M c (recvS (h.val + 1) _).val = _
  rw [show (recvS (h.val + 1) (by omega)).val = 24 + (h.val + 1) from congrArg Fin.val (recvS_val ⟨h.val + 1, by omega⟩)]
  match h with
  | 0 => rfl
  | 1 => rfl
  | 2 => rfl

theorem expect_bar : (ringRd (F := F) M).expect (barCell c) 0 = 2 := by
  unfold Schedule.expect Schedule.amountOf
  rw [duties_bar]; rfl
theorem expect_send (h : Fin 3) : (ringRd (F := F) M).expect (sendCell c h.val (by omega)) 0 = NR := by
  unfold Schedule.expect Schedule.amountOf; rw [duties_send, Finset.sum_singleton]; rfl
theorem expect_recv (h : Fin 3) : (ringRd (F := F) M).expect (recvCell c (h.val + 1) (by omega)) 0 = NR := by
  unfold Schedule.expect Schedule.amountOf; rw [duties_recv, Finset.sum_singleton]; rfl

theorem rest_bar : bigSep ((ringRd (F := F) M).duties (barCell c) 0 \ ∅) (fun d => (ringRd (F := F) M).payload (barCell c) 0 d) = iprop(emp ∗ arrivePay c) := by
  rw [Finset.sdiff_empty, duties_bar, bigSep_univ_eq_bigSepL [false, true] (by decide) (by decide), bigSepL_cons_cons, bigSepL_singleton]
  rfl
theorem rest_send (h : Fin 3) : bigSep ((ringRd (F := F) M).duties (sendCell c h.val (by omega)) 0 \ ∅)
    (fun d => (ringRd (F := F) M).payload (sendCell c h.val (by omega)) 0 d) = sentPay c h.val (by omega) := by
  rw [Finset.sdiff_empty, duties_send, bigSep_singleton, pay_send]
theorem rest_recv (h : Fin 3) : bigSep ((ringRd (F := F) M).duties (recvCell c (h.val + 1) (by omega)) 0 \ ∅)
    (fun d => (ringRd (F := F) M).payload (recvCell c (h.val + 1) (by omega)) 0 d) = landPay M c (h.val + 1) (by omega) := by
  rw [Finset.sdiff_empty, duties_recv, bigSep_singleton, pay_recv]

end Cells

/-! ## Debts and levels -/

/-- What device `c` still owes: nothing but the last landing; the last two; all three; those and one arrival; everything. -/
def owe1 (c : Dev nD) : CellTallies nD τ sig Unit := 0 + tallyAt (recvCell (nxt c) 3 (by decide)) () NR
def owe2 (c : Dev nD) : CellTallies nD τ sig Unit := owe1 c + tallyAt (recvCell (nxt c) 2 (by decide)) () NR
def owe3 (c : Dev nD) : CellTallies nD τ sig Unit := owe2 c + tallyAt (recvCell (nxt c) 1 (by decide)) () NR
def owe4 (c : Dev nD) : CellTallies nD τ sig Unit := owe3 c + tallyAt (barCell (nxt c)) () 1
def O₀ (c : Dev nD) : CellTallies nD τ sig Unit := owe4 c + tallyAt (barCell (prv c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier 1, the three landings 2, 3, 4, everything else 0. -/
def lvOf : SemLoc sig → ℕ
  | .reg q => if q = barS then 1 else 0
  | .dma q => q.val - 23
def lv (g : GSem nD τ sig) (_ : Unit) : ℕ := lvOf g.2

theorem lv_bar : lvOf (.reg barS) = 1 := by dsimp only [lvOf]; exact if_pos rfl
theorem lv_recv (h : Fin 4) : lvOf (.dma (recvS h.val h.isLt)) = h.val + 1 := by revert h; decide +kernel
theorem lv_send (h : Fin 4) : lvOf (.dma (sendS h.val h.isLt)) = 0 := by revert h; decide +kernel
theorem lv_kv (s k : Fin 4) : lvOf (.dma (kvS s.val k.val s.isLt k.isLt)) = 0 := by revert s k; decide +kernel

/-- Every debt is at a level above `n`. -/
def Above (n : ℕ) (O : CellTallies nD τ sig Unit) : Prop := ∀ g u, 0 < O g u → g.1.2 = .tc ∧ n < lvOf g.2

theorem Above.zero (n : ℕ) : Above n 0 := fun g u h => absurd h (Nat.lt_irrefl 0)
theorem Above.add {n : ℕ} {O : CellTallies nD τ sig Unit} (h : Above n O) (d : Dev nD) (s : SemLoc sig) (k : ℕ) (hs : n < lvOf s) :
    Above n (O + tallyAt ((d : Thread nD τ), s) () k) := by
  intro g u hg
  rw [Pi.add_apply, Finsupp.add_apply] at hg
  rcases Nat.eq_zero_or_pos (O g u) with h0 | h0
  · rw [h0, Nat.zero_add, tallyAt_apply] at hg
    by_cases hh : g = ((d : Thread nD τ), s) ∧ u = ()
    · rw [hh.1]; exact ⟨rfl, hs⟩
    · rw [if_neg hh] at hg; exact absurd hg (Nat.lt_irrefl 0)
  · exact h g u h0

theorem above1 (c : Dev nD) : Above 3 (owe1 c) := (Above.zero 3).add _ _ _ (lt_of_lt_of_eq (by decide) (lv_recv 3).symm)
theorem above2 (c : Dev nD) : Above 2 (owe2 c) := by
  refine Above.add (fun g u h => ⟨(above1 c g u h).1, lt_trans (by decide) (above1 c g u h).2⟩) _ _ _ (lt_of_lt_of_eq (by decide) (lv_recv 2).symm)
theorem above3 (c : Dev nD) : Above 1 (owe3 c) := by
  refine Above.add (fun g u h => ⟨(above2 c g u h).1, lt_trans (by decide) (above2 c g u h).2⟩) _ _ _ (lt_of_lt_of_eq (by decide) (lv_recv 1).symm)
theorem above4 (c : Dev nD) : Above 0 (owe4 c) := by
  refine Above.add (fun g u h => ⟨(above3 c g u h).1, lt_trans (by decide) (above3 c g u h).2⟩) _ _ _ (lt_of_lt_of_eq (by decide) lv_bar.symm)
theorem above5 (c : Dev nD) : Above 0 (O₀ c) := Above.add (above4 c) _ _ _ (lt_of_lt_of_eq (by decide) lv_bar.symm)

/-- A wait below every debt. -/
theorem mayWait {n : ℕ} {O : CellTallies nD τ sig Unit} (h : Above n O) (c : Dev nD) (s : SemLoc sig) (hs : lvOf s ≤ n) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

end Cert.RingAttn

end
-- ==== Proof.Slabs.lean ====
/-
# The exchange buffer, slab by slab

The buffer as its four slabs, a load of a slab's columns, the message as three stores leave it in slab 0, and a slab
copied into the next one: the message with it.
-/
module

public import proofs.«01_k».proof.Proof.BodyChunk
public import proofs.«01_k».proof.Proof.Sched
public import Idealize.ShloMosaic.Lib.Ring

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The elements of a slab -/

abbrev slabR (h : ℕ) (hh : h < 4) : Rect S4x2x512x256 := Rect.unit (s := S4x2x512x256) ![h, 0, 0, 0] S1x2x512x256.size (slab_inb h hh)

theorem mem_slab (h : ℕ) (hh : h < 4) (i : S4x2x512x256.Idx) : i ∈ (slabM h hh).view.set ↔ (i 0).val = h := by
  have e : (slabM h hh).view.set = ((View.whole cc0_scratch7).slice (slabR h hh)).set :=
    View.set_reshape (v := cB.view.slice (slabR h hh)) (s' := S2x512x256) squeezes_S1x2x512x256_S2x512x256.numel_eq
  have h1 : (i 1).val < 2 := (i 1).isLt
  have h2 : (i 2).val < 512 := (i 2).isLt
  have h3 : (i 3).val < 256 := (i 3).isLt
  rw [e, View.set_slice_whole, Rect.mem_set_unit]
  constructor
  · intro H
    have a : h ≤ (i 0).val ∧ (i 0).val < h + 1 := H 0
    omega
  · intro a k
    match k with
    | 0 => show h ≤ (i 0).val ∧ (i 0).val < h + 1; omega
    | 1 => show 0 ≤ (i 1).val ∧ (i 1).val < 0 + 2; omega
    | 2 => show 0 ≤ (i 2).val ∧ (i 2).val < 0 + 512; omega
    | 3 => show 0 ≤ (i 3).val ∧ (i 3).val < 0 + 256; omega

theorem mem_co (h : ℕ) (hh : h < 4) (i : S4x2x512x256.Idx) (H : i ∈ (cB.view.slice (coR h hh)).set) : (i 0).val = h ∧ (i 3).val < 128 := by
  have H' : i ∈ ((View.whole cc0_scratch7).slice (coR h hh)).set := H
  rw [View.set_slice_whole, Rect.mem_set_unit] at H'
  have a : h ≤ (i 0).val ∧ (i 0).val < h + 1 := H' 0
  have b : 0 ≤ (i 3).val ∧ (i 3).val < 0 + 128 := H' 3
  omega
theorem mem_cs (h j : ℕ) (hh : h < 4) (hj : j < 256) (i : S4x2x512x256.Idx) (H : i ∈ (cB.view.slice (csR h j hh hj)).set) :
    (i 0).val = h ∧ (i 3).val = j := by
  have H' : i ∈ ((View.whole cc0_scratch7).slice (csR h j hh hj)).set := H
  rw [View.set_slice_whole, Rect.mem_set_unit] at H'
  have a : h ≤ (i 0).val ∧ (i 0).val < h + 1 := H' 0
  have b : j ≤ (i 3).val ∧ (i 3).val < j + 1 := H' 3
  omega

/-! ## The whole buffer and its slabs -/

abbrev slabSet (b : Fin 4) : Finset (Idx (((0 : Dev nD) : Thread nD τ).loc cc0_scratch7)) := (slabM b.val b.isLt).view.set

theorem slabs_disjoint (b b' : Fin 4) (h : b ≠ b') : Disjoint (slabSet b) (slabSet b') :=
  Finset.disjoint_left.2 fun i hi hi' => h (Fin.ext (((mem_slab _ _ i).1 hi).symm.trans ((mem_slab _ _ i).1 hi')))
theorem slabs_cover : Finset.univ.biUnion slabSet = Finset.univ :=
  Finset.eq_univ_iff_forall.2 fun i => Finset.mem_biUnion.2 ⟨⟨(i 0).val, (i 0).isLt⟩, Finset.mem_univ _, (mem_slab _ _ i).2 rfl⟩

theorem fin4_sep (P : Fin 4 → sProp 𝕄) : bigSep Finset.univ P = iprop(P 0 ∗ P 1 ∗ P 2 ∗ P 3) := by
  rw [bigSep_univ_eq_bigSepL [0, 1, 2, 3] (by decide) (by decide), bigSepL_cons_cons, bigSepL_cons_cons, bigSepL_cons_cons, bigSepL_singleton]
  rfl

variable (c : Dev nD)

theorem slabs_split (f : Vec F S4x2x512x256 .f32) : pts c cc0_scratch7 f
    = iprop(slab c 0 (by decide) f ∗ slab c 1 (by decide) f ∗ slab c 2 (by decide) f ∗ slab c 3 (by decide) f) :=
  (Ring.pointsTo_blocks (ℓ := (c : Thread nD τ).loc cc0_scratch7) slabSet slabs_disjoint slabs_cover f).trans (fin4_sep _)

theorem slabs_join : iprop(sentPay (F := F) c 0 (by decide) ∗ sentPay (F := F) c 1 (by decide) ∗ sentPay (F := F) c 2 (by decide) ∗ sentPay (F := F) c 3 (by decide))
    ⊢ (iprop(∃ f : Vec F S4x2x512x256 .f32, pts c cc0_scratch7 f) : sProp 𝕄) := by
  refine (Entails.of_eq (fin4_sep fun b => sentPay (F := F) c b.val b.isLt).symm).trans ?_
  exact Ring.pointsTo_blocks_join_exists (ℓ := (c : Thread nD τ).loc cc0_scratch7) slabSet slabs_disjoint slabs_cover (fun _ => (FloatOps.ofBits .f32 0 : F .f32))

/-! ## Loads of a slab's columns -/

theorem wp_load_co (h : ℕ) (hh : h < 4) (f : Vec F S4x2x512x256 .f32) (bO) (hl)
    {α : Type} {Q : α → sProp 𝕄} {kk : Vec F S1x2x512x128 .f32 → Prog (TpuEff nD τ sig (Elt F) Λ₀ .tc) α} :
    slab c h hh f ⊢ iprop((slab c h hh f -∗ wp frame (wpE (defs₀ (F := F)) 𝒱₀ (c : Thread nD τ) none) Set.univ (kk (rdCO h hh f)) Q)
      -∗ wp frame (wpE (defs₀ (F := F)) 𝒱₀ (c : Thread nD τ) none) Set.univ
          (.op (.load cB (Rect.unit (s := S4x2x512x256) ![h, 0, 0, 0] S1x2x512x128.size bO).toLoadRect hl) kk) Q) := by
  unfold slab
  exact wp_load 𝒱₀ (c : Thread nD τ) none Set.univ (m := cB) (r := (coR h hh).toLoadRect) (S := (slabM h hh).view.set) (f := f)
    (by
      rw [View.setOn, ← View.set_slice]
      exact fun i hi => (mem_slab h hh i).2 (mem_co h hh i hi).1)

theorem wp_load_cs (h j : ℕ) (hh : h < 4) (hj : j < 256) (f : Vec F S4x2x512x256 .f32) (bO) (hl)
    {α : Type} {Q : α → sProp 𝕄} {kk : Vec F S1x2x512x1 .f32 → Prog (TpuEff nD τ sig (Elt F) Λ₀ .tc) α} :
    slab c h hh f ⊢ iprop((slab c h hh f -∗ wp frame (wpE (defs₀ (F := F)) 𝒱₀ (c : Thread nD τ) none) Set.univ (kk (rdCS h j hh hj f)) Q)
      -∗ wp frame (wpE (defs₀ (F := F)) 𝒱₀ (c : Thread nD τ) none) Set.univ
          (.op (.load cB (Rect.unit (s := S4x2x512x256) ![h, 0, 0, j] S1x2x512x1.size bO).toLoadRect hl) kk) Q) := by
  unfold slab
  exact wp_load 𝒱₀ (c : Thread nD τ) none Set.univ (m := cB) (r := (csR h j hh hj).toLoadRect) (S := (slabM h hh).view.set) (f := f)
    (by
      rw [View.setOn, ← View.set_slice]
      exact fun i hi => (mem_slab h hh i).2 (mem_cs h j hh hj i hi).1)

/-! ## The message in slab 0 -/

abbrev coR0 : Rect S4x2x512x256 := coR 0 (by decide)
abbrev cmR0 : Rect S4x2x512x256 := csR 0 128 (by decide) (by decide)
abbrev clR0 : Rect S4x2x512x256 := csR 0 129 (by decide) (by decide)

/-- The three stores of the message. -/
def putMsg (f : Vec F S4x2x512x256 .f32) (p : Msg F) : Vec F S4x2x512x256 .f32 :=
  (cB.view.slice clR0).write (Elt F) ((cB.view.slice cmR0).write (Elt F) ((cB.view.slice coR0).write (Elt F) f p.o Finset.univ) p.m Finset.univ) p.l Finset.univ

theorem disj_om : Disjoint (cB.view.slice coR0).set (cB.view.slice cmR0).set :=
  Finset.disjoint_left.2 fun i hi hi' => by
    have a := (mem_co 0 _ i hi).2; have b := (mem_cs 0 128 _ _ i hi').2; omega
theorem disj_ol : Disjoint (cB.view.slice coR0).set (cB.view.slice clR0).set :=
  Finset.disjoint_left.2 fun i hi hi' => by
    have a := (mem_co 0 _ i hi).2; have b := (mem_cs 0 129 _ _ i hi').2; omega
theorem disj_ml : Disjoint (cB.view.slice cmR0).set (cB.view.slice clR0).set :=
  Finset.disjoint_left.2 fun i hi hi' => by
    have a := (mem_cs 0 128 _ _ i hi).2; have b := (mem_cs 0 129 _ _ i hi').2; omega

theorem holds_putMsg (f : Vec F S4x2x512x256 .f32) (p : Msg F) : holds 0 (by decide) p (putMsg f p) := by
  unfold putMsg
  refine ⟨?_, ?_, ?_⟩
  · exact (View.read_slice_write_slice_of_disjoint (Val := Elt F) (v := cB.view) coR0 clR0 _ p.l Finset.univ disj_ol).trans
      ((View.read_slice_write_slice_of_disjoint (Val := Elt F) (v := cB.view) coR0 cmR0 _ p.m Finset.univ disj_om).trans
        (View.read_write_univ (Val := Elt F) (v := cB.view.slice coR0) f p.o))
  · exact (View.read_slice_write_slice_of_disjoint (Val := Elt F) (v := cB.view) cmR0 clR0 _ p.l Finset.univ disj_ml).trans
      (View.read_write_univ (Val := Elt F) (v := cB.view.slice cmR0) _ p.m)
  · exact View.read_write_univ (Val := Elt F) (v := cB.view.slice clR0) _ p.l

/-! ## A slab copied into the next -/

/-- What a slab reads as. -/
abbrev rdSlab (h : ℕ) (hh : h < 4) (f : Vec F S4x2x512x256 .f32) : Vec F S1x2x512x256 .f32 := cB.view.readAt (Elt F) (slabR h hh).toLoadRect f

abbrev inCO (i : S1x2x512x128.Idx) : S1x2x512x256.Idx := fun a => ⟨(i a).val, lt_of_lt_of_le (i a).isLt (by
  revert a; intro a; match a with
  | 0 => exact Nat.le_refl 1
  | 1 => exact Nat.le_refl 2
  | 2 => exact Nat.le_refl 512
  | 3 => show 128 ≤ 256; omega)⟩
abbrev inCS (j : ℕ) (hj : j < 256) (i : S1x2x512x1.Idx) : S1x2x512x256.Idx := fun a => match a with
  | 0 => ⟨(i 0).val, (i 0).isLt⟩
  | 1 => ⟨(i 1).val, (i 1).isLt⟩
  | 2 => ⟨(i 2).val, (i 2).isLt⟩
  | 3 => ⟨j, hj⟩

theorem rdCO_slab (h : ℕ) (hh : h < 4) (f : Vec F S4x2x512x256 .f32) : rdCO h hh f = fun i => rdSlab h hh f (inCO i) := by
  funext i
  show f _ = f _
  refine congrArg f (funext fun a => Fin.ext ?_)
  match a with
  | 0 => rfl
  | 1 => rfl
  | 2 => rfl
  | 3 => rfl
theorem rdCS_slab (h j : ℕ) (hh : h < 4) (hj : j < 256) (f : Vec F S4x2x512x256 .f32) : rdCS h j hh hj f = fun i => rdSlab h hh f (inCS j hj i) := by
  funext i
  show f _ = f _
  refine congrArg f (funext fun a => Fin.ext ?_)
  have h3 : (i 3).val = 0 := Nat.lt_one_iff.1 (i 3).isLt
  match a with
  | 0 => rfl
  | 1 => rfl
  | 2 => rfl
  | 3 => show j + 1 * (i 3).val = 0 + 1 * j; omega

theorem holds_of_slab {h h' : ℕ} {hh : h < 4} {hh' : h' < 4} {f f' : Vec F S4x2x512x256 .f32} (e : rdSlab h' hh' f' = rdSlab h hh f) {p : Msg F}
    (H : holds h hh p f) : holds h' hh' p f' := by
  unfold holds at H ⊢
  rw [rdCO_slab, rdCS_slab, rdCS_slab] at H ⊢
  rw [e]; exact H

/-- Slab `h` of `fs` written over slab `h'` of `fd`. -/
theorem holds_copied {h h' : ℕ} (hh : h < 4) (hh' : h' < 4) (fs fd : Vec F S4x2x512x256 .f32) {p : Msg F} (H : holds h hh p fs) :
    holds h' hh' p ((slabM h' hh').view.write (Elt F) fd ((slabM h hh).view.read (Elt F) fs) Finset.univ) := by
  refine holds_of_slab ?_ H
  have h1 := View.read_write_univ (Val := Elt F) (v := (slabM h' hh').view) fd ((slabM h hh).view.read (Elt F) fs)
  have h2 := (Memref.read_squeeze_slice (Val := Elt F) cB (slabR h' hh') (fun _ => rfl) squeezes_S1x2x512x256_S2x512x256 squeezes_S1x2x512x256_S2x512x256.numel_eq
    ((slabM h' hh').view.write (Elt F) fd ((slabM h hh).view.read (Elt F) fs) Finset.univ)).symm.trans h1
  have h3 := Memref.read_squeeze_slice (Val := Elt F) cB (slabR h hh) (fun _ => rfl) squeezes_S1x2x512x256_S2x512x256 squeezes_S1x2x512x256_S2x512x256.numel_eq fs
  have h4 := congrArg (fun w => shapeCast S1x2x512x256 w squeezes_S1x2x512x256_S2x512x256.numel_eq.symm) (h2.trans h3)
  exact (shapeCast_shapeCast _ _ _).symm.trans (h4.trans (shapeCast_shapeCast _ _ _))

end Cert.RingAttn

end
-- ==== Proof.Chunk.lean ====
/-
# One grid point's chunk, whole

The part of the body that every grid point runs: from what the point begins with to what the next one begins with.
-/
module

public import proofs.«01_k».proof.Proof.BodyChunk
public import proofs.«01_k».proof.Proof.Sched

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The body up to the chunk's last store, then `R`. -/
def chunkThen (i : grid0.Coords) (R : Prog (TpuEff nD τ sig (Elt F) Λ₀ .tc) PUnit) : Prog (TpuEff nD τ sig (Elt F) Λ₀ .tc) PUnit := do
  let ⟨a0, v16⟩ ← k0_part16 i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
  let ⟨v52, v53, v55⟩ ← k0_part17 i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9 v16
  let ⟨v86, v89⟩ ← k0_part18 i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9 v16 v52 v53 v55
  let ⟨v98, v122⟩ ← k0_part19 i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9 v16 v86 v89
  Prog.lift (.store mM (Rect.unit (s := S2x512x1) ![1, 0, 0] S1x512x1.size inb_S2x512x1_S1x512x1_1_0_0) (k0_pay1 v98) Finset.univ (View.stores_vmem_bits_univ h_S1x512x1 rfl) (.inl rfl))
  R

variable (c : Dev nD) (K V : Vec F S1x32768x2x128 .f32) (x : Vec F S1x128x1024 .f32) (wq : Vec F S1024x1024 .f32)

/-- The chunk's waits, whatever is owed above level 0. -/
theorem mayWait_kv {O : CellTallies nD τ sig Unit} (hO : Above 0 O) (c : Dev nD) (s k : ℕ) (hs : s < 4) (hk : k < 4) :
    (levAts L lv : sProp 𝕄) ⊢ MayWait (c : Thread nD τ) (.dma (kvS s k hs hk)) () O :=
  mayWait hO c _ (le_of_eq (lv_kv ⟨s, hs⟩ ⟨k, hk⟩))

/-- What is owed, whatever has been waited for. -/
def owesAny (c : Dev nD) (O : CellTallies nD τ sig Unit) : sProp 𝕄 := iprop(∃ W, owes (c : Thread nD τ) O W)

theorem owesAny_intro {O : CellTallies nD τ sig Unit} {W : Waits sig Unit} : (owes (c : Thread nD τ) O W : sProp 𝕄) ⊢ owesAny c O := by
  unfold owesAny; iintro H; iexists W; iexact H

def chunkPost (t : ℕ) (O : CellTallies nD τ sig Unit) : sProp 𝕄 :=
  iprop(warmLocal c K V x wq (t + 1) ∗ pts c cc0_stg0_0 x ∗ pts c cc0_stg1_0 wq ∗ owesAny c O)

theorem fillAt_lanes {t : ℕ} (h : t < 32) : fillAt c K V t
    = iprop(flyLane c kB kA K (t % 4) 0 0 (m4 t) (by decide) (by decide) t ∗ flyLane c kB kA K (t % 4) 1 1 (m4 t) (by decide) (by decide) t
      ∗ flyLane c vB vA V (t % 4) 2 0 (m4 t) (by decide) (by decide) t ∗ flyLane c vB vA V (t % 4) 3 1 (m4 t) (by decide) (by decide) t) := by
  rw [fillAt_of_lt c K V h]; rfl

/-! Two stores, of head group 0 and then of head group 1. -/

theorem two_o (f : Vec F S2x512x128 .f32) (p0 p1 : Vec F S1x512x128 .f32) :
    oM.view.writes (Elt F) f [⟨oR1, p1⟩, ⟨oR0, p0⟩] = wrO1 (wrO0 f p0) p1 := rfl
theorem two_m (f : Vec F S2x512x1 .f32) (p0 p1 : Vec F S1x512x1 .f32) :
    mM.view.writes (Elt F) f [⟨mR1, p1⟩, ⟨mR0, p0⟩] = wrM1 (wrM0 f p0) p1 := rfl
theorem two_l (f : Vec F S2x512x1 .f32) (p0 p1 : Vec F S1x512x1 .f32) :
    lM.view.writes (Elt F) f [⟨mR1, p1⟩, ⟨mR0, p0⟩] = wrL1 (wrL0 f p0) p1 := rfl

/-- The accumulators one chunk on, written out. -/
theorem accAt_succ (n : ℕ) : accAt c K V x wq (n + 1) =
    let q := qC x wq
    let s := stAt q K V n
    let k0 := chunkV K n 0 (by decide)
    let v0 := chunkV V n 0 (by decide)
    let k1 := chunkV K n 1 (by decide)
    let v1 := chunkV V n 1 (by decide)
    let m' := wrM0 s.m (k0_pay55 (k0_pay48 (rdQ0 q) k0) (rdM0 s.m))
    let o' := wrO0 s.o (k0_pay54 (k0_pay46 v0) (k0_pay47 (rdQ0 q) k0) (k0_pay48 (rdQ0 q) k0) (rdM0 s.m) (rdO0 s.o))
    let l' := wrL0 s.l (k0_pay53 (k0_pay47 (rdQ0 q) k0) (k0_pay48 (rdQ0 q) k0) (rdM0 s.m) (rdL0 s.l))
    iprop(pts c cc0_scratch0 q
      ∗ pts c cc0_scratch1 (wrO1 o' (k0_pay64 (k0_pay56 (rdQ1 q)) (k0_pay57 k1) v1 (rdM1 m') (rdO1 o')))
      ∗ pts c cc0_scratch2 (wrM1 m' (k0_pay1 (k0_pay60 (k0_pay56 (rdQ1 q)) (k0_pay57 k1) (rdM1 m'))))
      ∗ pts c cc0_scratch3 (wrL1 l' (k0_pay63 (k0_pay56 (rdQ1 q)) (k0_pay57 k1) (rdM1 m') (rdL1 l')))) := rfl

theorem chunkPost_intro (t : ℕ) (O : CellTallies nD τ sig Unit) :
    iprop((doneLane c kB kA K (t % 4) 0 0 (m4 t) (by decide) (by decide) t ∗ doneLane c kB kA K (t % 4) 1 1 (m4 t) (by decide) (by decide) t
        ∗ doneLane c vB vA V (t % 4) 2 0 (m4 t) (by decide) (by decide) t ∗ doneLane c vB vA V (t % 4) 3 1 (m4 t) (by decide) (by decide) t)
      ∗ fillAt c K V (t + 1) ∗ fillAt c K V (t + 2) ∗ freeAt c K V (t + 3)
      ∗ pts c cc0_stg0_0 x ∗ pts c cc0_stg1_0 wq ∗ owesAny c O ∗ accAt c K V x wq (t + 1))
    ⊢ chunkPost c K V x wq t O := by
  unfold chunkPost warmLocal
  rw [show t + 1 + 3 = t + 4 from rfl, freeAt_add]
  iintro ⟨HA, H1, H2, H3, Hx, Hw, HO, Hacc⟩
  isplitl [HA H1 H2 H3 Hacc]
  · isplitl [H1]; · iexact H1
    isplitl [H2]; · iexact H2
    isplitl [H3]; · iexact H3
    isplitl [HA]
    · exact doneSlot_free c K V (t % 4) (m4 t) t
    iexact Hacc
  isplitl [Hx]; · iexact Hx
  isplitl [Hw] <;> iassumption

set_option maxHeartbeats 4000000 in
theorem wp_chunk (i : grid0.Coords) (R : Prog (TpuEff nD τ sig (Elt F) Λ₀ .tc) PUnit) (Kt : PUnit → sProp 𝕄)
    {O : CellTallies nD τ sig Unit} (hO : Above 0 O) :
    iprop(localAt c K V x wq (i 0).val ∗ pts c cc0_stg0_0 x ∗ pts c cc0_stg1_0 wq ∗ owesAny c O ∗ levAts L lv
        ∗ (chunkPost c K V x wq (i 0).val O -∗ wp frame (wpE (defs₀ (F := F)) 𝒱₀ (c : Thread nD τ) none) Set.univ R Kt))
      ⊢ wp frame (wpE (defs₀ (F := F)) 𝒱₀ (c : Thread nD τ) none) Set.univ (chunkThen i R) Kt := by
  have ht : (i 0).val < 32 := (i 0).isLt
  unfold chunkThen owesAny
  simp only [k0_part16_eq_skeleton, k0_part16_skel, k0_part17_eq_skeleton, k0_part17_skel, k0_part18_eq_skeleton, k0_part18_skel,
    k0_part19_eq_skeleton, k0_part19_skel, Prog.lift, Prog.bind_op, Prog.bind_ret, Prog.pure_eq_ret, Prog.bind_assoc]
  iintro ⟨Hloc, Hx, Hw, ⟨%W, HO⟩, #Hlev, Hk⟩
  rw [wp_bind]
  iapply (wp_branch1_then c K V x wq i _ _ _ (cond1_iff i))
  isplitl [Hloc]; · iexact Hloc
  isplitl [Hx]; · iexact Hx
  isplitl [Hw]; · iexact Hw
  iintro ⟨Hloc, Hx, Hw⟩
  unfold warmLocal
  icases Hloc with ⟨H0, H1, H2, H3, Hacc⟩
  iapply (wp_branch2 c K V i _ _ _ ht)
  isplitl [H2]; · iexact H2
  iintro H2
  ihave H0' := (Entails.of_eq (fillAt_lanes c K V ht)) $$ H0
  icases H0' with ⟨A0, A1, A2, A3⟩
  iapply (wp_landed_slot c kB kA K ((i 0).val % 4) 0 0 (i 0).val _ _ _ (off9_eq i) _ _) $$ [A0 HO]
  · isplitl [A0]; · iexact A0
    isplitl [HO]; · iexact HO
    iapply (mayWait_kv hO c _ _ _ _); iexact Hlev
  iintro ⟨A0, HO⟩
  rw [wp_ret]; imodintro
  iapply (wp_landed_slot c kB kA K ((i 0).val % 4) 1 1 (i 0).val _ _ _ (off12_eq i) _ _) $$ [A1 HO]
  · isplitl [A1]; · iexact A1
    isplitl [HO]; · iexact HO
    iapply (mayWait_kv hO c _ _ _ _); iexact Hlev
  iintro ⟨A1, HO⟩
  iapply (wp_landed_slot c vB vA V ((i 0).val % 4) 2 0 (i 0).val _ _ _ (off15_eq i) _ _) $$ [A2 HO]
  · isplitl [A2]; · iexact A2
    isplitl [HO]; · iexact HO
    iapply (mayWait_kv hO c _ _ _ _); iexact Hlev
  iintro ⟨A2, HO⟩
  iapply (wp_landed_slot c vB vA V ((i 0).val % 4) 3 1 (i 0).val _ _ _ (off16_eq i) _ _) $$ [A3 HO]
  · isplitl [A3]; · iexact A3
    isplitl [HO]; · iexact HO
    iapply (mayWait_kv hO c _ _ _ _); iexact Hlev
  iintro ⟨A3, HO⟩
  unfold accAt
  icases Hacc with ⟨Hq, Ho, Hm, Hl⟩
  sl_step
  iapply (wp_load_slot c kB kA K ((i 0).val % 4) 0 0 (i 0).val _ _ _ (off17_eq i) _) $$ A0; iintro A0
  iapply (wp_load_slot c vB vA V ((i 0).val % 4) 2 0 (i 0).val _ _ _ (off17_eq i) _) $$ A2; iintro A2
  sl_steps
  iapply (wp_load_slot c kB kA K ((i 0).val % 4) 1 1 (i 0).val _ _ _ (off18_eq i) _) $$ A1; iintro A1
  iapply (wp_load_slot c vB vA V ((i 0).val % 4) 3 1 (i 0).val _ _ _ (off18_eq i) _) $$ A3; iintro A3
  sl_steps
  iapply Hk
  iapply (chunkPost_intro c K V x wq (i 0).val O)
  isplitl [A0 A1 A2 A3]
  · isplitl [A0]; · iexact A0
    isplitl [A1]; · iexact A1
    isplitl [A2] <;> iassumption
  isplitl [H1]; · iexact H1
  isplitl [H2]; · iexact H2
  isplitl [H3]; · iexact H3
  isplitl [Hx]; · iexact Hx
  isplitl [Hw]; · iexact Hw
  isplitl [HO]; · iapply (owesAny_intro c); iexact HO
  iclear Hlev
  simp only [chunkOf_k, chunkOf_v]
  rw [accAt_succ]
  isplitl [Hq]; · iexact Hq
  isplitl [Ho]; · exact (Entails.of_eq (congrArg (pts c cc0_scratch1) (two_o _ _ _)))
  isplitl [Hm]; · exact (Entails.of_eq (congrArg (pts c cc0_scratch2) (two_m _ _ _)))
  exact (Entails.of_eq (congrArg (pts c cc0_scratch3) (two_l _ _ _)))

end Cert.RingAttn

end
-- ==== Proof.Hop.lean ====
/-
# One hop

The ring's cells by number, what is shared about them, and the three steps of a hop: the copy starts, its sending
ends, the previous device's copy lands.
-/
module

public import proofs.«01_k».proof.Proof.Slabs
public import proofs.«01_k».proof.Proof.Chunk

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells by number -/

/-- The seven cells of a device: the barrier, the ends of the three sendings, the three landings. -/
def kcell (e : Dev nD × Fin 7) : GSem nD τ sig := match e.2 with
  | 0 => barCell e.1
  | 1 => sendCell e.1 0 (by decide)
  | 2 => sendCell e.1 1 (by decide)
  | 3 => sendCell e.1 2 (by decide)
  | 4 => recvCell e.1 1 (by decide)
  | 5 => recvCell e.1 2 (by decide)
  | 6 => recvCell e.1 3 (by decide)

abbrev sIx (h : Fin 3) : Fin 7 := ⟨1 + h.val, by omega⟩
abbrev rIx (h : Fin 3) : Fin 7 := ⟨4 + h.val, by omega⟩

theorem kcell_bar (c : Dev nD) : kcell (c, 0) = barCell c := rfl
theorem kcell_send (c : Dev nD) (h : Fin 3) : kcell (c, sIx h) = sendCell c h.val (by omega) := match h with
  | 0 => rfl
  | 1 => rfl
  | 2 => rfl
theorem kcell_recv (c : Dev nD) (h : Fin 3) : kcell (c, rIx h) = recvCell c (h.val + 1) (by omega) := match h with
  | 0 => rfl
  | 1 => rfl
  | 2 => rfl

variable (M : Dev nD → Msg F) (K : Dev nD × Fin 7 → ℕ)

/-- Every cell is under the schedule, and at its first round. -/
def records : sProp 𝕄 :=
  bigSep Finset.univ fun e : Dev nD × Fin 7 => iprop(cellInv ER (ringRd M) (K e) (kcell e) ∗ reached ER (kcell e) 0)

instance : BI.Persistent (records (F := F) M K) := by unfold records; infer_instance

theorem rec_at (e : Dev nD × Fin 7) : records M K ⊢ iprop(cellInv ER (ringRd M) (K e) (kcell e) ∗ reached ER (kcell e) 0) := by
  unfold records; exact bigSep_elim (Finset.mem_univ e)

section Rec
variable (c : Dev nD) (h : Fin 3)

theorem inv_bar : records M K ⊢ cellInv ER (ringRd M) (K (c, 0)) (barCell c) := (rec_at M K (c, 0)).trans sep_elim_left
theorem reached_bar : records M K ⊢ reached ER (barCell c) 0 := (rec_at M K (c, 0)).trans sep_elim_right
theorem inv_send : records M K ⊢ cellInv ER (ringRd M) (K (c, sIx h)) (sendCell c h.val (by omega)) := by
  rw [← kcell_send]; exact (rec_at M K (c, sIx h)).trans sep_elim_left
theorem reached_send : records M K ⊢ reached ER (sendCell c h.val (by omega)) 0 := by
  rw [← kcell_send]; exact (rec_at M K (c, sIx h)).trans sep_elim_right
theorem inv_recv : records M K ⊢ cellInv ER (ringRd M) (K (c, rIx h)) (recvCell c (h.val + 1) (by omega)) := by
  rw [← kcell_recv]; exact (rec_at M K (c, rIx h)).trans sep_elim_left
theorem reached_recv : records M K ⊢ reached ER (recvCell c (h.val + 1) (by omega)) 0 := by
  rw [← kcell_recv]; exact (rec_at M K (c, rIx h)).trans sep_elim_right

end Rec

theorem slab_credit (h : ℕ) (hh : h < 4) : (slabM h hh).view.dmaCredit = NR := rfl

section Steps
variable (c : Dev nD) (h : Fin 3) {a b : ℕ} (ha : a = h.val) (hb : b = h.val + 1) (la : a < 4) (lb : b < 4)

include ha hb in
/-- The copy of slab `a` into the next device's slab `b` starts. -/
theorem wp_hop_send (n : Dev nD) (hn : n = nxt c)
    {hsc : (slabM b lb : Memref sig (Dev.tc n : Thread nD τ).2.kind .vmem S2x512x256 .f32).view.ref.isScScratch = false}
    {hsrc : (slabM a la).view.WordExact} {hdst : (slabM b lb : Memref sig (Dev.tc n : Thread nD τ).2.kind .vmem S2x512x256 .f32).view.WordExact}
    {hsem : DmaTarget.Typed .vmem (.dma (recvS b lb)) (.remote (Dev.tc n : Thread nD τ) (slabM b lb) (.dma (sendS a la)) hsc)}
    {α : Type} {Q : α → sProp 𝕄} {k : PUnit → Prog (TpuEff nD τ sig (Elt F) Λ₀ .tc) α}
    (f : Vec F S4x2x512x256 .f32) (hf : holds a la (M (back c a)) f) (O' O : CellTallies nD τ sig Unit)
    (hO : O' = O + tallyAt (recvCell (nxt c) b lb) () NR) :
    iprop(records M K ∗ slab c a la f ∗ sentPay (F := F) (nxt c) b lb ∗ owesAny c O'
        ∗ dutyTok ER (sendCell c a la) 0 false ∗ dutyTok ER (recvCell (nxt c) b lb) 0 false)
      ⊢ iprop(((cred (tallyAt (sendCell c a la) () NR) ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slabM a la) (.remote (Dev.tc n : Thread nD τ) (slabM b lb) (.dma (sendS a la)) hsc) (.dma (recvS b lb)) hsrc hdst hsem) k) Q) := by
  subst hn ha hb hO
  unfold sentPay owesAny
  iintro ⟨#HR, Hs, ⟨%fd, Hd⟩, ⟨%W, HO⟩, Ht1, Ht2⟩ Hk
  unfold slab
  iapply (Rounds.wp_send_pointsTo 𝒱₀ ER (ringRd M) (c : Thread nD τ) none (κ₁ := K (c, sIx h)) (κ₂ := K (nxt c, rIx h))
    (r₁ := 0) (r₂ := 0) (d₁ := false) (d₂ := false) (fd := fd) (fs := f)
    (by rw [duties_send]; exact Finset.mem_singleton_self _) (by rw [duties_recv]; exact Finset.mem_singleton_self _)
    () () NR rfl rfl rfl O rfl (W := W)
    (by
      rw [pay_send]; unfold sentPay slab
      iintro H; iexists f; iexact H)
    (by
      rw [pay_recv]; unfold landPay slab
      iintro H; iexists _
      isplitr [H]
      · ipureintro; rw [back_nxt]; exact holds_copied la lb f fd hf
      iexact H)) $$ [Hs Hd HO Ht1 Ht2]
  · isplitr; · iapply (inv_send M K c h); iexact HR
    isplitr; · iapply (inv_recv M K (nxt c) h); iexact HR
    isplitl [Hs]; · iexact Hs
    isplitl [Hd]; · iexact Hd
    isplitl [HO]; · iexact HO
    isplitl [Ht1]; · iexact Ht1
    isplitr; · iapply (reached_send M K c h); iexact HR
    isplitl [Ht2]; · iexact Ht2
    iapply (reached_recv M K (nxt c) h); iexact HR
  iintro ⟨Hc, HO⟩
  iapply Hk
  isplitl [Hc]; · iexact Hc
  iexists W; iexact HO

include ha in
/-- The sending of slab `a` has ended. -/
theorem wp_hop_sent {d e : ℕ} {hd : d < 4} {he : e < 4} {hsrc : (slabM d hd).view.WordExact} {hdst : (slabM e he).view.WordExact}
    {α : Type} {Q : α → sProp 𝕄} {k : PUnit → Prog (TpuEff nD τ sig (Elt F) Λ₀ .tc) α}
    {n : ℕ} {O : CellTallies nD τ sig Unit} (hO : Above n O) :
    iprop(records M K ∗ levAts L lv ∗ cred (tallyAt (sendCell c a la) () NR) ∗ owesAny c O ∗ atPos ER (sendCell c a la) 0 ∅ 0)
      ⊢ iprop(((semVal (sendCell c a la) 0 ∗ sentPay (F := F) c a la ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS a la) (slabM d hd) (slabM e he) hsrc hdst) k) Q) := by
  subst ha
  unfold owesAny
  iintro ⟨#HR, #Hlev, Hc, ⟨%W, HO⟩, Hat⟩ Hk
  iapply (Rounds.wp_wait_rest_token 𝒱₀ ER (ringRd M) (c : Thread nD τ) none (κ := K (c, sIx h))
      (wpE_waitDma2_eq 𝒱₀ (c : Thread nD τ) none Set.univ) (Set.mem_univ _) () (O := O) (W := W) (R := 0) (m := 0) (T := ∅)
      (by rw [Nat.zero_add, expect_send])) $$ [Hc HO Hat]
  · isplitr; · iapply (inv_send M K c h); iexact HR
    isplitl [Hc]; · iexact Hc
    isplitl [HO]; · iexact HO
    isplitr; · iapply (mayWait hO c _ (le_trans (le_of_eq (lv_send ⟨h.val, by omega⟩)) (Nat.zero_le n))); iexact Hlev
    iexact Hat
  iintro ⟨HO, Hat, -, Hpay⟩
  ihave Hp := (Entails.of_eq (rest_send M c h)) $$ Hpay
  imod (Rounds.cell_close ER (ringRd M) (Set.mem_univ (K (c, sIx h))) (fun h => h) (R := 0 + 1) (duties_later M (sendCell c h.val (by omega)))) $$ [Hat] with Hz
  · isplitr; · iapply (inv_send M K c h); iexact HR
    iexact Hat
  iapply Hk
  isplitl [Hz]; · iexact Hz
  isplitl [Hp]; · iexact Hp
  iexists _; iexact HO

include hb in
/-- The previous device's copy has landed in slab `b`. -/
theorem wp_hop_landed {d e : ℕ} {hd : d < 4} {he : e < 4} {hsrc : (slabM d hd).view.WordExact} {hdst : (slabM e he).view.WordExact}
    {α : Type} {Q : α → sProp 𝕄} {k : PUnit → Prog (TpuEff nD τ sig (Elt F) Λ₀ .tc) α}
    {n : ℕ} {O : CellTallies nD τ sig Unit} (hO : Above n O) (hn : h.val + 2 ≤ n) :
    iprop(records M K ∗ levAts L lv ∗ cred (tallyAt (recvCell c b lb) () NR) ∗ owesAny c O ∗ atPos ER (recvCell c b lb) 0 ∅ 0)
      ⊢ iprop(((semVal (recvCell c b lb) 0 ∗ landPay M c b lb ∗ owesAny c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS b lb) (slabM d hd) (slabM e he) hsrc hdst) k) Q) := by
  subst hb
  unfold owesAny
  iintro ⟨#HR, #Hlev, Hc, ⟨%W, HO⟩, Hat⟩ Hk
  iapply (Rounds.wp_wait_rest_token 𝒱₀ ER (ringRd M) (c : Thread nD τ) none (κ := K (c, rIx h))
      (wpE_waitDma2_eq 𝒱₀ (c : Thread nD τ) none Set.univ) (Set.mem_univ _) () (O := O) (W := W) (R := 0) (m := 0) (T := ∅)
      (by rw [Nat.zero_add, expect_recv])) $$ [Hc HO Hat]
  · isplitr; · iapply (inv_recv M K c h); iexact HR
    isplitl [Hc]; · iexact Hc
    isplitl [HO]; · iexact HO
    isplitr; · iapply (mayWait hO c _ (le_trans (le_of_eq (lv_recv ⟨h.val + 1, by omega⟩)) hn)); iexact Hlev
    iexact Hat
  iintro ⟨HO, Hat, -, Hpay⟩
  ihave Hp := (Entails.of_eq (rest_recv M c h)) $$ Hpay
  imod (Rounds.cell_close ER (ringRd M) (Set.mem_univ (K (c, rIx h))) (fun h => h) (R := 0 + 1) (duties_later M (recvCell c (h.val + 1) (by omega)))) $$ [Hat] with Hz
  · isplitr; · iapply (inv_recv M K c h); iexact HR
    iexact Hat
  iapply Hk
  isplitl [Hz]; · iexact Hz
  isplitl [Hp]; · iexact Hp
  iexists _; iexact HO

end Steps

/-! ## Arrival -/

variable (c : Dev nD)

theorem sent_intro {h : ℕ} {hh : h < 4} {f : Vec F S4x2x512x256 .f32} : slab c h hh f ⊢ sentPay (F := F) c h hh := by
  unfold sentPay; iintro H; iexists f; iexact H
theorem land_sent {h : ℕ} {hh : h < 4} : landPay M c h hh ⊢ sentPay (F := F) c h hh := by
  unfold landPay sentPay; iintro ⟨%f, -, H⟩; iexists f; iexact H

/-- What the arrival hands over: to the previous device the landing slabs, to the next one nothing. -/
theorem arrive_intro : iprop(sentPay (F := F) c 1 (by decide) ∗ sentPay (F := F) c 2 (by decide) ∗ sentPay (F := F) c 3 (by decide)
      ∗ reached ER (recvCell c 1 (by decide)) 0 ∗ reached ER (recvCell c 2 (by decide)) 0 ∗ reached ER (recvCell c 3 (by decide)) 0)
    ⊢ (ringRd M).payload (barCell (prv c)) 0 true := by
  have e : (ringRd M).payload (barCell (prv c)) 0 true = arrivePay (F := F) (prv c) := rfl
  rw [e]; unfold arrivePay; rw [nxt_prv]
  iintro ⟨H1, H2, H3, HR⟩
  isplitl [H1 H2 H3]
  · isplitl [H1]; · iexact H1
    isplitl [H2] <;> iassumption
  iexact HR
theorem heard_intro : (emp : sProp 𝕄) ⊢ (ringRd M).payload (barCell (nxt c)) 0 false := by
  have e : (ringRd M).payload (barCell (nxt c)) 0 false = (iprop(emp) : sProp 𝕄) := rfl
  rw [e]

/-- The arrival at the previous device's barrier, with the landing slabs, and at the next one's. -/
theorem wp_arrive (n₁ n₂ : Dev nD) (h₁ : n₁ = prv c) (h₂ : n₂ = nxt c)
    {α : Type} {Q : α → sProp 𝕄} {k : PUnit → Prog (TpuEff nD τ sig (Elt F) Λ₀ .tc) α} :
    iprop(records M K ∗ levAts L lv ∗ owesAny c (O₀ c) ∗ dutyTok ER (barCell (prv c)) 0 true ∗ dutyTok ER (barCell (nxt c)) 0 false
        ∗ (sentPay (F := F) c 1 (by decide) ∗ sentPay (F := F) c 2 (by decide) ∗ sentPay (F := F) c 3 (by decide))
        ∗ cred (tallyAt (barCell c) () 2) ∗ atPos ER (barCell c) 0 ∅ 0)
      ⊢ iprop(((semVal (barCell c) 0 ∗ owesAny c (owe3 c)
              ∗ sentPay (F := F) (nxt c) 1 (by decide) ∗ sentPay (F := F) (nxt c) 2 (by decide) ∗ sentPay (F := F) (nxt c) 3 (by decide))
            -∗ wp frame (wpE (defs₀ (F := F)) 𝒱₀ (c : Thread nD τ) none) Set.univ (k ⟨⟩) Q)
          -∗ wp frame (wpE (defs₀ (F := F)) 𝒱₀ (c : Thread nD τ) none) Set.univ
              (semSignalWord n₁ barS 1#32 >>= fun _ => semSignalWord n₂ barS 1#32 >>= fun _ => semWaitWord barS 2#32 >>= k) Q) := by
  subst h₁ h₂
  simp only [semSignalWord, semWaitWord, Prog.bind_op, Prog.bind_ret, Prog.pure_eq_ret]
  unfold owesAny O₀
  iintro ⟨#HR, #Hlev, ⟨%W, HO⟩, HtP, HtN, ⟨HS1, HS2, HS3⟩, Hc, Hat⟩ Hk
  iapply (Rounds.wp_signal 𝒱₀ ER (ringRd M) (c : Thread nD τ) none (dst := (prv c : Thread nD τ)) (κ := K (prv c, 0))
      (d := true) (by rw [duties_bar]; exact Finset.mem_univ _) (show (1 : ℕ) = (1#32 : BitVec 32).toNat by decide) () (owe4 c) rfl)
    $$ [HO HtP HS1 HS2 HS3]
  · isplitr; · iapply (inv_bar M K (prv c)); iexact HR
    isplitl [HO]; · iexact HO
    isplitl [HtP]; · iexact HtP
    isplitl [HS1 HS2 HS3]
    · iapply (arrive_intro M c)
      isplitl [HS1]; · iexact HS1
      isplitl [HS2]; · iexact HS2
      isplitl [HS3]; · iexact HS3
      isplitr; · iapply (reached_recv M K c 0); iexact HR
      isplitr; · iapply (reached_recv M K c 1); iexact HR
      iapply (reached_recv M K c 2); iexact HR
    · iapply (reached_bar M K (prv c)); iexact HR
  iintro HO
  unfold owe4
  iapply (Rounds.wp_signal 𝒱₀ ER (ringRd M) (c : Thread nD τ) none (dst := (nxt c : Thread nD τ)) (κ := K (nxt c, 0))
      (d := false) (by rw [duties_bar]; exact Finset.mem_univ _) (show (1 : ℕ) = (1#32 : BitVec 32).toNat by decide) () (owe3 c) rfl)
    $$ [HO HtN]
  · isplitr; · iapply (inv_bar M K (nxt c)); iexact HR
    isplitl [HO]; · iexact HO
    isplitl [HtN]; · iexact HtN
    isplitr; · iapply (heard_intro M c); iempintro
    iapply (reached_bar M K (nxt c)); iexact HR
  iintro HO
  iapply (Rounds.wp_wait_rest_token 𝒱₀ ER (ringRd M) (c : Thread nD τ) none (κ := K (c, 0))
      (wpE_semWait_eq 𝒱₀ (c : Thread nD τ) none Set.univ) (Set.mem_univ _) () (O := owe3 c) (W := W) (R := 0) (m := 0) (T := ∅)
      (by rw [expect_bar]; decide)) $$ [Hc HO Hat]
  · isplitr; · iapply (inv_bar M K c); iexact HR
    isplitl [Hc]; · iexact Hc
    isplitl [HO]; · iexact HO
    isplitr; · iapply (mayWait (above3 c) c _ (le_of_eq lv_bar)); iexact Hlev
    iexact Hat
  iintro ⟨HO, Hat, -, Hpay⟩
  ihave Hp := (Entails.of_eq (rest_bar M c)) $$ Hpay
  unfold arrivePay
  icases Hp with ⟨-, HS, -⟩
  imod (Rounds.cell_close ER (ringRd M) (Set.mem_univ (K (c, 0))) (fun h => h) (R := 0 + 1) (duties_later M (barCell c))) $$ [Hat] with Hz
  · isplitr; · iapply (inv_bar M K c); iexact HR
    iexact Hat
  iapply Hk
  isplitl [Hz]; · iexact Hz
  isplitl [HO]; · iexists _; iexact HO
  iexact HS

end Cert.RingAttn

end
-- ==== Proof.Whole.lean ====
/-
# Whole-buffer loads and stores

Of the three accumulators, of the exchange buffer and of the result block.
-/
module

public import proofs.«01_k».proof.Proof.Hop

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

theorem wp_ld_o (f : Vec F S2x512x128 .f32) (bO) (hl) {α : Type} {Q : α → sProp 𝕄} {kk : Vec F S2x512x128 .f32 → Prog (TpuEff nD τ sig (Elt F) Λ₀ .tc) α} :
    pts c cc0_scratch1 f ⊢ iprop((pts c cc0_scratch1 f -∗ wp frame (wpE (defs₀ (F := F)) 𝒱₀ (c : Thread nD τ) none) Set.univ (kk f) Q)
      -∗ wp frame (wpE (defs₀ (F := F)) 𝒱₀ (c : Thread nD τ) none) Set.univ (.op (.load oM (Rect.unit (s := S2x512x128) ![0, 0, 0] S2x512x128.size bO).toLoadRect hl) kk) Q) := by
  have e := Memref.readAt_unit_zero (Elt F) cc0_scratch1 z3 bO f
  have h := wp_load (Γ := []) (defs := defs₀ (F := F)) (Q := Q) (k := kk) 𝒱₀ (c : Thread nD τ) none Set.univ (m := oM) (r := (Rect.unit (s := S2x512x128) ![0, 0, 0] S2x512x128.size bO).toLoadRect) (hl := hl) (S := Finset.univ) (q := fullShare) (f := f) (Finset.subset_univ _)
  rw [show oM.view.readAt (Elt F) (Rect.unit (s := S2x512x128) ![0, 0, 0] S2x512x128.size bO).toLoadRect f = f from e] at h
  exact h
theorem wp_st_o (f p : Vec F S2x512x128 .f32) (bO) (h1) (h2) {α : Type} {Q : α → sProp 𝕄} {kk : PUnit → Prog (TpuEff nD τ sig (Elt F) Λ₀ .tc) α} :
    pts c cc0_scratch1 f ⊢ iprop((pts c cc0_scratch1 p -∗ wp frame (wpE (defs₀ (F := F)) 𝒱₀ (c : Thread nD τ) none) Set.univ (kk ⟨⟩) Q)
      -∗ wp frame (wpE (defs₀ (F := F)) 𝒱₀ (c : Thread nD τ) none) Set.univ (.op (.store oM (Rect.unit (s := S2x512x128) ![0, 0, 0] S2x512x128.size bO) p Finset.univ h1 h2) kk) Q) := by
  have h := wp_store (Γ := []) (defs := defs₀ (F := F)) (Q := Q) (k := kk) 𝒱₀ (c : Thread nD τ) none Set.univ (m := oM) (r := Rect.unit (s := S2x512x128) ![0, 0, 0] S2x512x128.size bO) (w := p) (Mk := Finset.univ) (hx := h1) (hm := h2) (S := Finset.univ) (f := f) (Finset.subset_univ _)
  rw [wr_o f p] at h
  exact h
theorem wp_ld_m (f : Vec F S2x512x1 .f32) (bO) (hl) {α : Type} {Q : α → sProp 𝕄} {kk : Vec F S2x512x1 .f32 → Prog (TpuEff nD τ sig (Elt F) Λ₀ .tc) α} :
    pts c cc0_scratch2 f ⊢ iprop((pts c cc0_scratch2 f -∗ wp frame (wpE (defs₀ (F := F)) 𝒱₀ (c : Thread nD τ) none) Set.univ (kk f) Q)
      -∗ wp frame (wpE (defs₀ (F := F)) 𝒱₀ (c : Thread nD τ) none) Set.univ (.op (.load mM (Rect.unit (s := S2x512x1) ![0, 0, 0] S2x512x1.size bO).toLoadRect hl) kk) Q) := by
  have e := Memref.readAt_unit_zero (Elt F) cc0_scratch2 z3 bO f
  have h := wp_load (Γ := []) (defs := defs₀ (F := F)) (Q := Q) (k := kk) 𝒱₀ (c : Thread nD τ) none Set.univ (m := mM) (r := (Rect.unit (s := S2x512x1) ![0, 0, 0] S2x512x1.size bO).toLoadRect) (hl := hl) (S := Finset.univ) (q := fullShare) (f := f) (Finset.subset_univ _)
  rw [show mM.view.readAt (Elt F) (Rect.unit (s := S2x512x1) ![0, 0, 0] S2x512x1.size bO).toLoadRect f = f from e] at h
  exact h
theorem wp_st_m (f p : Vec F S2x512x1 .f32) (bO) (h1) (h2) {α : Type} {Q : α → sProp 𝕄} {kk : PUnit → Prog (TpuEff nD τ sig (Elt F) Λ₀ .tc) α} :
    pts c cc0_scratch2 f ⊢ iprop((pts c cc0_scratch2 p -∗ wp frame (wpE (defs₀ (F := F)) 𝒱₀ (c : Thread nD τ) none) Set.univ (kk ⟨⟩) Q)
      -∗ wp frame (wpE (defs₀ (F := F)) 𝒱₀ (c : Thread nD τ) none) Set.univ (.op (.store mM (Rect.unit (s := S2x512x1) ![0, 0, 0] S2x512x1.size bO) p Finset.univ h1 h2) kk) Q) := by
  have h := wp_store (Γ := []) (defs := defs₀ (F := F)) (Q := Q) (k := kk) 𝒱₀ (c : Thread nD τ) none Set.univ (m := mM) (r := Rect.unit (s := S2x512x1) ![0, 0, 0] S2x512x1.size bO) (w := p) (Mk := Finset.univ) (hx := h1) (hm := h2) (S := Finset.univ) (f := f) (Finset.subset_univ _)
  rw [wr_m f p] at h
  exact h
theorem wp_ld_l (f : Vec F S2x512x1 .f32) (bO) (hl) {α : Type} {Q : α → sProp 𝕄} {kk : Vec F S2x512x1 .f32 → Prog (TpuEff nD τ sig (Elt F) Λ₀ .tc) α} :
    pts c cc0_scratch3 f ⊢ iprop((pts c cc0_scratch3 f -∗ wp frame (wpE (defs₀ (F := F)) 𝒱₀ (c : Thread nD τ) none) Set.univ (kk f) Q)
      -∗ wp frame (wpE (defs₀ (F := F)) 𝒱₀ (c : Thread nD τ) none) Set.univ (.op (.load lM (Rect.unit (s := S2x512x1) ![0, 0, 0] S2x512x1.size bO).toLoadRect hl) kk) Q) := by
  have e := Memref.readAt_unit_zero (Elt F) cc0_scratch3 z3 bO f
  have h := wp_load (Γ := []) (defs := defs₀ (F := F)) (Q := Q) (k := kk) 𝒱₀ (c : Thread nD τ) none Set.univ (m := lM) (r := (Rect.unit (s := S2x512x1) ![0, 0, 0] S2x512x1.size bO).toLoadRect) (hl := hl) (S := Finset.univ) (q := fullShare) (f := f) (Finset.subset_univ _)
  rw [show lM.view.readAt (Elt F) (Rect.unit (s := S2x512x1) ![0, 0, 0] S2x512x1.size bO).toLoadRect f = f from e] at h
  exact h
theorem wp_st_l (f p : Vec F S2x512x1 .f32) (bO) (h1) (h2) {α : Type} {Q : α → sProp 𝕄} {kk : PUnit → Prog (TpuEff nD τ sig (Elt F) Λ₀ .tc) α} :
    pts c cc0_scratch3 f ⊢ iprop((pts c cc0_scratch3 p -∗ wp frame (wpE (defs₀ (F := F)) 𝒱₀ (c : Thread nD τ) none) Set.univ (kk ⟨⟩) Q)
      -∗ wp frame (wpE (defs₀ (F := F)) 𝒱₀ (c : Thread nD τ) none) Set.univ (.op (.store lM (Rect.unit (s := S2x512x1) ![0, 0, 0] S2x512x1.size bO) p Finset.univ h1 h2) kk) Q) := by
  have h := wp_store (Γ := []) (defs := defs₀ (F := F)) (Q := Q) (k := kk) 𝒱₀ (c : Thread nD τ) none Set.univ (m := lM) (r := Rect.unit (s := S2x512x1) ![0, 0, 0] S2x512x1.size bO) (w := p) (Mk := Finset.univ) (hx := h1) (hm := h2) (S := Finset.univ) (f := f) (Finset.subset_univ _)
  rw [wr_l f p] at h
  exact h

theorem wp_ld_c (f : Vec F S4x2x512x256 .f32) (r : Rect S4x2x512x256) (hl) {α : Type} {Q : α → sProp 𝕄}
    {kk : Vec F r.shape .f32 → Prog (TpuEff nD τ sig (Elt F) Λ₀ .tc) α} :
    pts c cc0_scratch7 f ⊢ iprop((pts c cc0_scratch7 f -∗ wp frame (wpE (defs₀ (F := F)) 𝒱₀ (c : Thread nD τ) none) Set.univ (kk (cB.view.readAt (Elt F) r.toLoadRect f)) Q)
      -∗ wp frame (wpE (defs₀ (F := F)) 𝒱₀ (c : Thread nD τ) none) Set.univ (.op (.load cB r.toLoadRect hl) kk) Q) :=
  wp_load 𝒱₀ (c : Thread nD τ) none Set.univ (m := cB) (r := r.toLoadRect) (S := Finset.univ) (q := fullShare) (f := f) (Finset.subset_univ _)
theorem wp_st_c (f : Vec F S4x2x512x256 .f32) (r : Rect S4x2x512x256) (p : Vec F r.shape .f32) (h1) (h2) {α : Type} {Q : α → sProp 𝕄}
    {kk : PUnit → Prog (TpuEff nD τ sig (Elt F) Λ₀ .tc) α} :
    pts c cc0_scratch7 f ⊢ iprop((pts c cc0_scratch7 ((cB.view.slice r).write (Elt F) f p Finset.univ) -∗ wp frame (wpE (defs₀ (F := F)) 𝒱₀ (c : Thread nD τ) none) Set.univ (kk ⟨⟩) Q)
      -∗ wp frame (wpE (defs₀ (F := F)) 𝒱₀ (c : Thread nD τ) none) Set.univ (.op (.store cB r p Finset.univ h1 h2) kk) Q) :=
  wp_store 𝒱₀ (c : Thread nD τ) none Set.univ (m := cB) (r := r) (w := p) (Mk := Finset.univ) (S := Finset.univ) (f := f) (Finset.subset_univ _)
theorem wp_ld_wo (f : Vec F S1024x1024 .f32) (r : Rect S1024x1024) (hl) {α : Type} {Q : α → sProp 𝕄}
    {kk : Vec F r.shape .f32 → Prog (TpuEff nD τ sig (Elt F) Λ₀ .tc) α} :
    pts c cc0_stg2_0 f ⊢ iprop((pts c cc0_stg2_0 f -∗ wp frame (wpE (defs₀ (F := F)) 𝒱₀ (c : Thread nD τ) none) Set.univ (kk (woM.view.readAt (Elt F) r.toLoadRect f)) Q)
      -∗ wp frame (wpE (defs₀ (F := F)) 𝒱₀ (c : Thread nD τ) none) Set.univ (.op (.load woM r.toLoadRect hl) kk) Q) :=
  wp_load 𝒱₀ (c : Thread nD τ) none Set.univ (m := woM) (r := r.toLoadRect) (S := Finset.univ) (q := fullShare) (f := f) (Finset.subset_univ _)
theorem wp_ld_out (f : Vec F S1x128x1024 .f32) (bO) (hl) {α : Type} {Q : α → sProp 𝕄} {kk : Vec F S1x128x1024 .f32 → Prog (TpuEff nD τ sig (Elt F) Λ₀ .tc) α} :
    pts c cc0_stg3_0 f ⊢ iprop((pts c cc0_stg3_0 f -∗ wp frame (wpE (defs₀ (F := F)) 𝒱₀ (c : Thread nD τ) none) Set.univ (kk f) Q)
      -∗ wp frame (wpE (defs₀ (F := F)) 𝒱₀ (c : Thread nD τ) none) Set.univ (.op (.load outM (Rect.unit (s := S1x128x1024) ![0, 0, 0] S1x128x1024.size bO).toLoadRect hl) kk) Q) := by
  have e := Memref.readAt_unit_zero (Elt F) cc0_stg3_0 z3 bO f
  have h := wp_load (Γ := []) (defs := defs₀ (F := F)) (Q := Q) (k := kk) 𝒱₀ (c : Thread nD τ) none Set.univ (m := outM) (r := (Rect.unit (s := S1x128x1024) ![0, 0, 0] S1x128x1024.size bO).toLoadRect) (hl := hl) (S := Finset.univ) (q := fullShare) (f := f) (Finset.subset_univ _)
  rw [show outM.view.readAt (Elt F) (Rect.unit (s := S1x128x1024) ![0, 0, 0] S1x128x1024.size bO).toLoadRect f = f from e] at h
  exact h
theorem wp_st_out (f p : Vec F S1x128x1024 .f32) (bO) (h1) (h2) {α : Type} {Q : α → sProp 𝕄} {kk : PUnit → Prog (TpuEff nD τ sig (Elt F) Λ₀ .tc) α} :
    pts c cc0_stg3_0 f ⊢ iprop((pts c cc0_stg3_0 p -∗ wp frame (wpE (defs₀ (F := F)) 𝒱₀ (c : Thread nD τ) none) Set.univ (kk ⟨⟩) Q)
      -∗ wp frame (wpE (defs₀ (F := F)) 𝒱₀ (c : Thread nD τ) none) Set.univ (.op (.store outM (Rect.unit (s := S1x128x1024) ![0, 0, 0] S1x128x1024.size bO) p Finset.univ h1 h2) kk) Q) := by
  have h := wp_store (Γ := []) (defs := defs₀ (F := F)) (Q := Q) (k := kk) 𝒱₀ (c : Thread nD τ) none Set.univ (m := outM) (r := Rect.unit (s := S1x128x1024) ![0, 0, 0] S1x128x1024.size bO) (w := p) (Mk := Finset.univ) (hx := h1) (hm := h2) (S := Finset.univ) (f := f) (Finset.subset_univ _)
  rw [(show (outM.access (Rect.unit (s := S1x128x1024) ![0, 0, 0] S1x128x1024.size bO) : View sig .tc _ _ _).write (Elt F) f p Finset.univ = p from Memref.write_access_unit_zero_univ (Elt F) cc0_stg3_0 z3 bO f p)] at h
  exact h

end Cert.RingAttn

end
-- ==== Proof.Tail.lean ====
/-
# The exchange and the result

What the last grid point does after its chunk: its message into slab 0, the arrival, three hops, each with a merge, and
the result block.
-/
module

public import proofs.«01_k».proof.Proof.Whole

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts at the launch's buffers -/

noncomputable abbrev rp7 (i : grid0.Coords) := k0_part7 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp8 (i : grid0.Coords) := k0_part8 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp9 (i : grid0.Coords) := k0_part9 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp10 (i : grid0.Coords) := k0_part10 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp11 (i : grid0.Coords) := k0_part11 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp12 (i : grid0.Coords) := k0_part12 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp13 (i : grid0.Coords) := k0_part13 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp14 (i : grid0.Coords) := k0_part14 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9
noncomputable abbrev rp15 (i : grid0.Coords) := k0_part15 (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9

/-- The last grid point's work after its chunk. -/
def ringTail (i : grid0.Coords) : Prog (TpuEff nD τ sig (Elt F) Λ₀ .tc) PUnit := do
  if k0_h3 : k0_cond3 i = 1#1 then do
    let ⟨d128, v141, v153, v158⟩ ← rp7 i
    rp8 i k0_h3 d128 v141 v153 v158
    let ⟨v196, v198, v200, v201⟩ ← rp9 i v141
    rp10 i v141 v196 v198 v200 v201
    let ⟨v251, v253⟩ ← rp11 i k0_h3 d128 v141
    rp12 i v141 v251 v253
    let v306 ← rp13 i k0_h3 d128 v141
    let v336 ← rp14 i v306
    let ⟨v339, v376⟩ ← rp15 i v336
    let v379 : Vec F S128x1024 .f32 ← Prog.lift (.load woM (Rect.unit (s := S1024x1024) ![768, 0] S128x1024.size inb_S1024x1024_S128x1024_768_0).toLoadRect (View.loadsAt_vmem h_S128x1024))
    let v385 : Vec F S128x1024 .f32 ← Prog.lift (.load woM (Rect.unit (s := S1024x1024) ![896, 0] S128x1024.size inb_S1024x1024_S128x1024_896_0).toLoadRect (View.loadsAt_vmem h_S128x1024))
    let v389 : Vec F S1x128x1024 .f32 ← Prog.lift (.load outM (Rect.unit (s := S1x128x1024) ![0, 0, 0] S1x128x1024.size inb_S1x128x1024_S1x128x1024_0_0_0).toLoadRect (View.loadsAt_vmem h_S1x128x1024))
    Prog.lift (.store outM (Rect.unit (s := S1x128x1024) ![0, 0, 0] S1x128x1024.size inb_S1x128x1024_S1x128x1024_0_0_0) (k0_pay2 v339 v376 v379 v385) Finset.univ (View.stores_vmem_bits_univ h_S1x128x1024 rfl) (.inl rfl))
    pure ⟨⟩
  else do
    pure ⟨⟩
  pure ⟨⟩

/-- The body is the chunk, then that. -/
theorem body_eq (i : grid0.Coords) : cc0_body (F := F) i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9 = chunkThen i (ringTail i) := by
  simp only [cc0_body_eq_skeleton]; rfl

variable (c : Dev nD) (i : grid0.Coords)

/-- The accumulators hold `s`. -/
def accS (s : St F) : sProp 𝕄 := iprop(pts c cc0_scratch1 s.o ∗ pts c cc0_scratch2 s.m ∗ pts c cc0_scratch3 s.l)

/-! ## The message -/

theorem wp_part7 (s : St F) (f : Vec F S4x2x512x256 .f32) (Kt : _ → sProp 𝕄) :
    iprop(accS c s ∗ pts c cc0_scratch7 f
        ∗ (∀ v141 v153, (accS c s ∗ pts c cc0_scratch7 ((cB.view.slice coR0).write (Elt F) f (k0_pay16 s.o) Finset.univ)) -∗ Kt ⟨c, v141, v153, s.m⟩))
      ⊢ wp frame (wpE (defs₀ (F := F)) 𝒱₀ (c : Thread nD τ) none) Set.univ (rp7 i) Kt := by
  simp only [rp7, k0_part7_eq_skeleton, k0_part7_skel, Prog.lift, Prog.bind_op, Prog.bind_ret, Prog.pure_eq_ret, Prog.bind_assoc, wp_deviceId]
  unfold accS
  iintro ⟨⟨Ho, Hm, Hl⟩, Hc, Hk⟩
  iapply (wp_ld_o c s.o _ _) $$ Ho; iintro Ho
  iapply (wp_ld_c c f _ _) $$ Hc; iintro Hc
  iapply (wp_st_c c f coR0 (k0_pay16 s.o) _ _) $$ Hc; iintro Hc
  iapply (wp_ld_m c s.m _ _) $$ Hm; iintro Hm
  rw [wp_ret]; imodintro
  iapply Hk
  isplitl [Ho Hm Hl]
  · isplitl [Ho]; · iexact Ho
    isplitl [Hm] <;> iassumption
  iexact Hc

variable (M : Dev nD → Msg F) (K : Dev nD × Fin 7 → ℕ)

theorem putMsg_eq (f : Vec F S4x2x512x256 .f32) (s : St F) : putMsg f (msgOf s) =
    (cB.view.slice clR0).write (Elt F) ((cB.view.slice cmR0).write (Elt F) ((cB.view.slice coR0).write (Elt F) f (k0_pay16 s.o) Finset.univ)
      (k0_pay17 s.m) Finset.univ) (k0_pay18 s.l) Finset.univ := rfl

/-- What one hop takes: the positions of its two cells, the tokens of the duties paid, the credit waited for. -/
def hopStart (a b : ℕ) (la : a < 4) (lb : b < 4) : sProp 𝕄 :=
  iprop(atPos ER (sendCell c a la) 0 ∅ 0 ∗ atPos ER (recvCell c b lb) 0 ∅ 0
    ∗ dutyTok ER (sendCell c a la) 0 false ∗ dutyTok ER (recvCell (nxt c) b lb) 0 false ∗ cred (tallyAt (recvCell c b lb) () NR))
/-- The copy of slab `a` is on its way. -/
def hopAir (a b : ℕ) (la : a < 4) (lb : b < 4) : sProp 𝕄 :=
  iprop(atPos ER (sendCell c a la) 0 ∅ 0 ∗ atPos ER (recvCell c b lb) 0 ∅ 0 ∗ cred (tallyAt (sendCell c a la) () NR) ∗ cred (tallyAt (recvCell c b lb) () NR))
/-- After the hop. -/
def hopDone (a b : ℕ) (la : a < 4) (lb : b < 4) : sProp 𝕄 :=
  iprop(semVal (sendCell c a la) 0 ∗ semVal (recvCell c b lb) 0)

/-- What the arrival takes. -/
def arriveStart : sProp 𝕄 :=
  iprop(dutyTok ER (barCell (prv c)) 0 true ∗ dutyTok ER (barCell (nxt c)) 0 false ∗ cred (tallyAt (barCell c) () 2) ∗ atPos ER (barCell c) 0 ∅ 0)

theorem wp_part8 (h3 : k0_cond3 i = 1#1) (v141 v153 : BitVec 32) (s : St F) (f : Vec F S4x2x512x256 .f32) (hM : M c = msgOf s) (Kt : _ → sProp 𝕄) :
    iprop(records M K ∗ levAts L lv ∗ accS c s ∗ pts c cc0_scratch7 ((cB.view.slice coR0).write (Elt F) f (k0_pay16 s.o) Finset.univ)
        ∗ owesAny c (O₀ c) ∗ arriveStart c ∗ hopStart c 0 1 (by decide) (by decide)
        ∗ ((accS c s ∗ owesAny c (owe2 c) ∗ semVal (barCell c) 0 ∗ hopAir c 0 1 (by decide) (by decide)
            ∗ sentPay (F := F) (nxt c) 2 (by decide) ∗ sentPay (F := F) (nxt c) 3 (by decide)) -∗ Kt ⟨⟩))
      ⊢ wp frame (wpE (defs₀ (F := F)) 𝒱₀ (c : Thread nD τ) none) Set.univ (rp8 i h3 c v141 v153 s.m) Kt := by
  simp only [rp8, k0_part8_eq_skeleton, k0_part8_skel, Prog.lift, Prog.bind_op, Prog.bind_ret, Prog.pure_eq_ret, Prog.bind_assoc]
  unfold accS arriveStart hopStart
  iintro ⟨#HR, #Hlev, ⟨Ho, Hm, Hl⟩, Hc, HO, ⟨HtP, HtN, HcB, HaB⟩, ⟨HaS, HaV, HtS, HtV, HcV⟩, Hk⟩
  iapply (wp_ld_c c _ _ _) $$ Hc; iintro Hc
  iapply (wp_st_c c _ cmR0 (k0_pay17 s.m) _ _) $$ Hc; iintro Hc
  iapply (wp_ld_l c s.l _ _) $$ Hl; iintro Hl
  iapply (wp_ld_c c _ _ _) $$ Hc; iintro Hc
  iapply (wp_st_c c _ clR0 (k0_pay18 s.l) _ _) $$ Hc; iintro Hc
  ihave Hc' := (Entails.of_eq ((congrArg (pts c cc0_scratch7) (putMsg_eq f s).symm).trans (slabs_split c (putMsg f (msgOf s))))) $$ Hc
  icases Hc' with ⟨H0, H1, H2, H3⟩
  iapply (wp_arrive M K c _ _ (dev1_eq c _) (dev2_eq c _)) $$ [HO HtP HtN H1 H2 H3 HcB HaB]
  · isplitr; · iexact HR
    isplitr; · iexact Hlev
    isplitl [HO]; · iexact HO
    isplitl [HtP]; · iexact HtP
    isplitl [HtN]; · iexact HtN
    isplitl [H1 H2 H3]
    · isplitl [H1]; · iapply (sent_intro c); iexact H1
      isplitl [H2]; · iapply (sent_intro c); iexact H2
      iapply (sent_intro c); iexact H3
    isplitl [HcB] <;> iassumption
  iintro ⟨Hz, HO, HN1, HN2, HN3⟩
  iapply (wp_hop_send M K c 0 (a := 0) (b := 1) rfl rfl (by decide) (by decide) _ (dev3_eq c _) (putMsg f (msgOf s))
    (by rw [show M (back c 0) = msgOf s from hM]; exact holds_putMsg f (msgOf s)) (owe3 c) (owe2 c) rfl) $$ [H0 HN1 HO HtS HtV]
  · isplitr; · iexact HR
    isplitl [H0]; · iexact H0
    isplitl [HN1]; · iexact HN1
    isplitl [HO]; · iexact HO
    isplitl [HtS] <;> iassumption
  iintro ⟨HcS, HO⟩
  rw [wp_ret]; imodintro
  iapply Hk
  isplitl [Ho Hm Hl]
  · isplitl [Ho]; · iexact Ho
    isplitl [Hm] <;> iassumption
  isplitl [HO]; · iexact HO
  isplitl [Hz]; · iexact Hz
  isplitl [HaS HaV HcS HcV]
  · unfold hopAir
    isplitl [HaS]; · iexact HaS
    isplitl [HaV]; · iexact HaV
    isplitl [HcS] <;> iassumption
  isplitl [HN2] <;> iassumption

/-! ## The hops and the merges -/

/-- Slab `h` with the message `p` in it. -/
def slabP (h : ℕ) (hh : h < 4) (p : Msg F) : sProp 𝕄 := iprop(∃ f : Vec F S4x2x512x256 .f32, ⌜holds h hh p f⌝ ∗ slab c h hh f)

theorem slabP_sent {h : ℕ} {hh : h < 4} {p : Msg F} : slabP c h hh p ⊢ sentPay (F := F) c h hh := by
  unfold slabP sentPay; iintro ⟨%f, -, H⟩; iexists f; iexact H

theorem slabP_eq {h : ℕ} {hh : h < 4} {p : Msg F} : slabP c h hh p ⊢ iprop(∃ f : Vec F S4x2x512x256 .f32, ⌜holds h hh p f⌝ ∗ slab c h hh f) := by
  unfold slabP; exact Entails.refl _
theorem land_slabP {h : ℕ} {hh : h < 4} : landPay M c h hh ⊢ slabP c h hh (M (back c h)) := by
  unfold slabP landPay; exact Entails.refl _

theorem accS_merge1 (p : Msg F) (s : St F) : accS c (merge1 p s) = iprop(pts c cc0_scratch1 (k0_pay25 (k0_pay19 p.o) (k0_pay20 p.m) s.m s.o)
    ∗ pts c cc0_scratch2 (k0_pay27 (k0_pay20 p.m) s.m) ∗ pts c cc0_scratch3 (k0_pay26 (k0_pay20 p.m) (k0_pay21 p.l) s.m s.l)) := rfl
theorem accS_merge2 (p : Msg F) (s : St F) : accS c (merge2 p s) = iprop(pts c cc0_scratch1 (k0_pay33 (k0_pay28 p.o) (k0_pay29 p.m) s.m s.o)
    ∗ pts c cc0_scratch2 (k0_pay35 (k0_pay29 p.m) s.m) ∗ pts c cc0_scratch3 (k0_pay34 (k0_pay29 p.m) p.l s.m s.l)) := rfl
theorem accS_merge3 (p : Msg F) (s : St F) : accS c (merge3 p s) = iprop(pts c cc0_scratch1 (k0_pay41 (k0_pay36 p.o) p.m s.m s.o)
    ∗ pts c cc0_scratch2 (k0_pay43 p.m s.m) ∗ pts c cc0_scratch3 (k0_pay42 p.m p.l s.m s.l)) := rfl
theorem merge3_o (p : Msg F) (s : St F) : (merge3 p s).o = k0_pay41 (k0_pay36 p.o) p.m s.m s.o := rfl

theorem wp_rd_o (h : ℕ) (hh : h < 4) (p : Msg F) (bO) (hl) {α : Type} {Q : α → sProp 𝕄} {kk : Vec F S1x2x512x128 .f32 → Prog (TpuEff nD τ sig (Elt F) Λ₀ .tc) α} :
    slabP c h hh p ⊢ iprop((slabP c h hh p -∗ wp frame (wpE (defs₀ (F := F)) 𝒱₀ (c : Thread nD τ) none) Set.univ (kk p.o) Q)
      -∗ wp frame (wpE (defs₀ (F := F)) 𝒱₀ (c : Thread nD τ) none) Set.univ (.op (.load cB (Rect.unit (s := S4x2x512x256) ![h, 0, 0, 0] S1x2x512x128.size bO).toLoadRect hl) kk) Q) := by
  unfold slabP
  iintro ⟨%f, %hf, H⟩ Hk
  iapply (wp_load_co c h hh f bO hl) $$ H; iintro H
  rw [hf.1]
  iapply Hk; iexists f; isplitr [H]; · ipureintro; exact hf
  iexact H
theorem wp_rd_m (h : ℕ) (hh : h < 4) (p : Msg F) (bO) (hl) {α : Type} {Q : α → sProp 𝕄} {kk : Vec F S1x2x512x1 .f32 → Prog (TpuEff nD τ sig (Elt F) Λ₀ .tc) α} :
    slabP c h hh p ⊢ iprop((slabP c h hh p -∗ wp frame (wpE (defs₀ (F := F)) 𝒱₀ (c : Thread nD τ) none) Set.univ (kk p.m) Q)
      -∗ wp frame (wpE (defs₀ (F := F)) 𝒱₀ (c : Thread nD τ) none) Set.univ (.op (.load cB (Rect.unit (s := S4x2x512x256) ![h, 0, 0, 128] S1x2x512x1.size bO).toLoadRect hl) kk) Q) := by
  unfold slabP
  iintro ⟨%f, %hf, H⟩ Hk
  iapply (wp_load_cs c h 128 hh (by decide) f bO hl) $$ H; iintro H
  rw [hf.2.1]
  iapply Hk; iexists f; isplitr [H]; · ipureintro; exact hf
  iexact H
theorem wp_rd_l (h : ℕ) (hh : h < 4) (p : Msg F) (bO) (hl) {α : Type} {Q : α → sProp 𝕄} {kk : Vec F S1x2x512x1 .f32 → Prog (TpuEff nD τ sig (Elt F) Λ₀ .tc) α} :
    slabP c h hh p ⊢ iprop((slabP c h hh p -∗ wp frame (wpE (defs₀ (F := F)) 𝒱₀ (c : Thread nD τ) none) Set.univ (kk p.l) Q)
      -∗ wp frame (wpE (defs₀ (F := F)) 𝒱₀ (c : Thread nD τ) none) Set.univ (.op (.load cB (Rect.unit (s := S4x2x512x256) ![h, 0, 0, 129] S1x2x512x1.size bO).toLoadRect hl) kk) Q) := by
  unfold slabP
  iintro ⟨%f, %hf, H⟩ Hk
  iapply (wp_load_cs c h 129 hh (by decide) f bO hl) $$ H; iintro H
  rw [hf.2.2]
  iapply Hk; iexists f; isplitr [H]; · ipureintro; exact hf
  iexact H

theorem wp_part9 (v141 : BitVec 32) (s : St F) (Kt : _ → sProp 𝕄) :
    iprop(records M K ∗ levAts L lv ∗ accS c s ∗ owesAny c (owe2 c) ∗ hopAir c 0 1 (by decide) (by decide)
        ∗ ((accS c s ∗ owesAny c (owe2 c) ∗ hopDone c 0 1 (by decide) (by decide) ∗ sentPay (F := F) c 0 (by decide) ∗ slabP c 1 (by decide) (M (back c 1)))
          -∗ Kt ⟨k0_pay19 (M (back c 1)).o, k0_pay20 (M (back c 1)).m, k0_pay21 (M (back c 1)).l, s.m⟩))
      ⊢ wp frame (wpE (defs₀ (F := F)) 𝒱₀ (c : Thread nD τ) none) Set.univ (rp9 i v141) Kt := by
  simp only [rp9, k0_part9_eq_skeleton, k0_part9_skel, Prog.lift, Prog.bind_op, Prog.bind_ret, Prog.pure_eq_ret, Prog.bind_assoc]
  unfold accS hopAir
  iintro ⟨#HR, #Hlev, ⟨Ho, Hm, Hl⟩, HO, ⟨HaS, HaV, HcS, HcV⟩, Hk⟩
  iapply (wp_hop_sent M K c 0 (a := 0) rfl (by decide) (above2 c)) $$ [HcS HO HaS]
  · isplitr; · iexact HR
    isplitr; · iexact Hlev
    isplitl [HcS]; · iexact HcS
    isplitl [HO] <;> iassumption
  iintro ⟨HzS, HS0, HO⟩
  iapply (wp_hop_landed M K c 0 (b := 1) rfl (by decide) (above2 c) (by decide)) $$ [HcV HO HaV]
  · isplitr; · iexact HR
    isplitr; · iexact Hlev
    isplitl [HcV]; · iexact HcV
    isplitl [HO] <;> iassumption
  iintro ⟨HzV, HL, HO⟩
  ihave HL' := (land_slabP c M) $$ HL
  iapply (wp_rd_o c 1 _ _ _ _) $$ HL'; iintro HL
  iapply (wp_rd_m c 1 _ _ _ _) $$ HL; iintro HL
  iapply (wp_rd_l c 1 _ _ _ _) $$ HL; iintro HL
  iapply (wp_ld_m c s.m _ _) $$ Hm; iintro Hm
  rw [wp_ret]; imodintro
  iapply Hk
  isplitl [Ho Hm Hl]
  · isplitl [Ho]; · iexact Ho
    isplitl [Hm] <;> iassumption
  isplitl [HO]; · iexact HO
  isplitl [HzS HzV]
  · unfold hopDone; isplitl [HzS] <;> iassumption
  isplitl [HS0] <;> iassumption
  all_goals decide

theorem wp_part10 (v141 : BitVec 32) (p : Msg F) (s : St F) (Kt : _ → sProp 𝕄) :
    iprop(accS c s ∗ (accS c (merge1 p s) -∗ Kt ⟨⟩))
      ⊢ wp frame (wpE (defs₀ (F := F)) 𝒱₀ (c : Thread nD τ) none) Set.univ (rp10 i v141 (k0_pay19 p.o) (k0_pay20 p.m) (k0_pay21 p.l) s.m) Kt := by
  rw [accS_merge1]
  simp only [rp10, k0_part10_eq_skeleton, k0_part10_skel, Prog.lift, Prog.bind_op, Prog.bind_ret, Prog.pure_eq_ret, Prog.bind_assoc]
  unfold accS
  iintro ⟨⟨Ho, Hm, Hl⟩, Hk⟩
  iapply (wp_ld_o c s.o _ _) $$ Ho; iintro Ho
  iapply (wp_ld_o c s.o _ _) $$ Ho; iintro Ho
  iapply (wp_st_o c s.o _ _ _ _) $$ Ho; iintro Ho
  iapply (wp_ld_l c s.l _ _) $$ Hl; iintro Hl
  iapply (wp_ld_l c s.l _ _) $$ Hl; iintro Hl
  iapply (wp_st_l c s.l _ _ _ _) $$ Hl; iintro Hl
  iapply (wp_ld_m c s.m _ _) $$ Hm; iintro Hm
  iapply (wp_st_m c s.m _ _ _ _) $$ Hm; iintro Hm
  rw [wp_ret]; imodintro
  iapply Hk
  isplitl [Ho]; · iexact Ho
  isplitl [Hm] <;> iassumption

theorem wp_part11 (h3 : k0_cond3 i = 1#1) (v141 : BitVec 32) (Kt : _ → sProp 𝕄) :
    iprop(records M K ∗ levAts L lv ∗ owesAny c (owe2 c) ∗ hopStart c 1 2 (by decide) (by decide) ∗ slabP c 1 (by decide) (M (back c 1))
        ∗ sentPay (F := F) (nxt c) 2 (by decide)
        ∗ ((owesAny c (owe1 c) ∗ hopDone c 1 2 (by decide) (by decide) ∗ sentPay (F := F) c 1 (by decide) ∗ slabP c 2 (by decide) (M (back c 2)))
          -∗ Kt ⟨k0_pay28 (M (back c 2)).o, k0_pay29 (M (back c 2)).m⟩))
      ⊢ wp frame (wpE (defs₀ (F := F)) 𝒱₀ (c : Thread nD τ) none) Set.univ (rp11 i h3 c v141) Kt := by
  simp only [rp11, k0_part11_eq_skeleton, k0_part11_skel, Prog.lift, Prog.bind_op, Prog.bind_ret, Prog.pure_eq_ret, Prog.bind_assoc]
  unfold hopStart
  conv => lhs; unfold slabP
  iintro ⟨#HR, #Hlev, HO, ⟨HaS, HaV, HtS, HtV, HcV⟩, ⟨%f, %hf, Hs⟩, HN, Hk⟩
  iapply (wp_hop_send M K c 1 (a := 1) (b := 2) rfl rfl (by decide) (by decide) _ (dev4_eq c _) f hf (owe2 c) (owe1 c) rfl) $$ [Hs HN HO HtS HtV]
  · isplitr; · iexact HR
    isplitl [Hs]; · iexact Hs
    isplitl [HN]; · iexact HN
    isplitl [HO]; · iexact HO
    isplitl [HtS] <;> iassumption
  iintro ⟨HcS, HO⟩
  iapply (wp_hop_sent M K c 1 (a := 1) rfl (by decide) (above1 c)) $$ [HcS HO HaS]
  · isplitr; · iexact HR
    isplitr; · iexact Hlev
    isplitl [HcS]; · iexact HcS
    isplitl [HO] <;> iassumption
  iintro ⟨HzS, HS0, HO⟩
  iapply (wp_hop_landed M K c 1 (b := 2) rfl (by decide) (above1 c) (by decide)) $$ [HcV HO HaV]
  · isplitr; · iexact HR
    isplitr; · iexact Hlev
    isplitl [HcV]; · iexact HcV
    isplitl [HO] <;> iassumption
  iintro ⟨HzV, HL, HO⟩
  ihave HL' := (land_slabP c M) $$ HL
  iapply (wp_rd_o c 2 _ _ _ _) $$ HL'; iintro HL
  iapply (wp_rd_m c 2 _ _ _ _) $$ HL; iintro HL
  rw [wp_ret]; imodintro
  iapply Hk
  isplitl [HO]; · iexact HO
  isplitl [HzS HzV]
  · unfold hopDone; isplitl [HzS] <;> iassumption
  isplitl [HS0]; · iexact HS0
  ihave HL2 := (slabP_eq c) $$ HL
  iexact HL2
  all_goals decide

theorem wp_part12 (v141 : BitVec 32) (p : Msg F) (s : St F) (Kt : _ → sProp 𝕄) :
    iprop(accS c s ∗ slabP c 2 (by decide) p ∗ ((accS c (merge2 p s) ∗ slabP c 2 (by decide) p) -∗ Kt ⟨⟩))
      ⊢ wp frame (wpE (defs₀ (F := F)) 𝒱₀ (c : Thread nD τ) none) Set.univ (rp12 i v141 (k0_pay28 p.o) (k0_pay29 p.m)) Kt := by
  rw [accS_merge2]
  simp only [rp12, k0_part12_eq_skeleton, k0_part12_skel, Prog.lift, Prog.bind_op, Prog.bind_ret, Prog.pure_eq_ret, Prog.bind_assoc]
  unfold accS
  iintro ⟨⟨Ho, Hm, Hl⟩, HL, Hk⟩
  iapply (wp_rd_l c 2 _ _ _ _) $$ HL; iintro HL
  iapply (wp_ld_m c s.m _ _) $$ Hm; iintro Hm
  iapply (wp_ld_o c s.o _ _) $$ Ho; iintro Ho
  iapply (wp_ld_o c s.o _ _) $$ Ho; iintro Ho
  iapply (wp_st_o c s.o _ _ _ _) $$ Ho; iintro Ho
  iapply (wp_ld_l c s.l _ _) $$ Hl; iintro Hl
  iapply (wp_ld_l c s.l _ _) $$ Hl; iintro Hl
  iapply (wp_st_l c s.l _ _ _ _) $$ Hl; iintro Hl
  iapply (wp_ld_m c s.m _ _) $$ Hm; iintro Hm
  iapply (wp_st_m c s.m _ _ _ _) $$ Hm; iintro Hm
  rw [wp_ret]; imodintro
  iapply Hk
  isplitl [Ho Hm Hl]
  · isplitl [Ho]; · iexact Ho
    isplitl [Hm] <;> iassumption
  iexact HL

theorem wp_part13 (h3 : k0_cond3 i = 1#1) (v141 : BitVec 32) (Kt : _ → sProp 𝕄) :
    iprop(records M K ∗ levAts L lv ∗ owesAny c (owe1 c) ∗ hopStart c 2 3 (by decide) (by decide) ∗ slabP c 2 (by decide) (M (back c 2))
        ∗ sentPay (F := F) (nxt c) 3 (by decide)
        ∗ ((owesAny c 0 ∗ hopDone c 2 3 (by decide) (by decide) ∗ sentPay (F := F) c 2 (by decide) ∗ slabP c 3 (by decide) (M (back c 3)))
          -∗ Kt (k0_pay36 (M (back c 3)).o)))
      ⊢ wp frame (wpE (defs₀ (F := F)) 𝒱₀ (c : Thread nD τ) none) Set.univ (rp13 i h3 c v141) Kt := by
  simp only [rp13, k0_part13_eq_skeleton, k0_part13_skel, Prog.lift, Prog.bind_op, Prog.bind_ret, Prog.pure_eq_ret, Prog.bind_assoc]
  unfold hopStart
  conv => lhs; unfold slabP
  iintro ⟨#HR, #Hlev, HO, ⟨HaS, HaV, HtS, HtV, HcV⟩, ⟨%f, %hf, Hs⟩, HN, Hk⟩
  iapply (wp_hop_send M K c 2 (a := 2) (b := 3) rfl rfl (by decide) (by decide) _ (dev5_eq c _) f hf (owe1 c) 0 rfl) $$ [Hs HN HO HtS HtV]
  · isplitr; · iexact HR
    isplitl [Hs]; · iexact Hs
    isplitl [HN]; · iexact HN
    isplitl [HO]; · iexact HO
    isplitl [HtS] <;> iassumption
  iintro ⟨HcS, HO⟩
  iapply (wp_hop_sent M K c 2 (a := 2) rfl (by decide) (Above.zero 4)) $$ [HcS HO HaS]
  · isplitr; · iexact HR
    isplitr; · iexact Hlev
    isplitl [HcS]; · iexact HcS
    isplitl [HO] <;> iassumption
  iintro ⟨HzS, HS0, HO⟩
  iapply (wp_hop_landed M K c 2 (b := 3) rfl (by decide) (Above.zero 4) (by decide)) $$ [HcV HO HaV]
  · isplitr; · iexact HR
    isplitr; · iexact Hlev
    isplitl [HcV]; · iexact HcV
    isplitl [HO] <;> iassumption
  iintro ⟨HzV, HL, HO⟩
  ihave HL' := (land_slabP c M) $$ HL
  iapply (wp_rd_o c 3 _ _ _ _) $$ HL'; iintro HL
  rw [wp_ret]; imodintro
  iapply Hk
  isplitl [HO]; · iexact HO
  isplitl [HzS HzV]
  · unfold hopDone; isplitl [HzS] <;> iassumption
  isplitl [HS0]; · iexact HS0
  ihave HL2 := (slabP_eq c) $$ HL
  iexact HL2
  all_goals decide

theorem wp_part14 (p : Msg F) (s : St F) (Kt : _ → sProp 𝕄) :
    iprop(accS c s ∗ slabP c 3 (by decide) p ∗ ((accS c (merge3 p s) ∗ slabP c 3 (by decide) p) -∗ Kt (merge3 p s).o))
      ⊢ wp frame (wpE (defs₀ (F := F)) 𝒱₀ (c : Thread nD τ) none) Set.univ (rp14 i (k0_pay36 p.o)) Kt := by
  rw [accS_merge3, merge3_o]
  simp only [rp14, k0_part14_eq_skeleton, k0_part14_skel, Prog.lift, Prog.bind_op, Prog.bind_ret, Prog.pure_eq_ret, Prog.bind_assoc]
  unfold accS
  iintro ⟨⟨Ho, Hm, Hl⟩, HL, Hk⟩
  iapply (wp_rd_m c 3 _ _ _ _) $$ HL; iintro HL
  iapply (wp_rd_l c 3 _ _ _ _) $$ HL; iintro HL
  iapply (wp_ld_m c s.m _ _) $$ Hm; iintro Hm
  iapply (wp_ld_o c s.o _ _) $$ Ho; iintro Ho
  iapply (wp_ld_o c s.o _ _) $$ Ho; iintro Ho
  iapply (wp_st_o c s.o _ _ _ _) $$ Ho; iintro Ho
  iapply (wp_ld_l c s.l _ _) $$ Hl; iintro Hl
  iapply (wp_ld_l c s.l _ _) $$ Hl; iintro Hl
  iapply (wp_st_l c s.l _ _ _ _) $$ Hl; iintro Hl
  iapply (wp_ld_m c s.m _ _) $$ Hm; iintro Hm
  iapply (wp_st_m c s.m _ _ _ _) $$ Hm; iintro Hm
  iapply (wp_ld_o c _ _ _) $$ Ho; iintro Ho
  rw [wp_ret]; imodintro
  iapply Hk
  isplitl [Ho Hm Hl]
  · isplitl [Ho]; · iexact Ho
    isplitl [Hm] <;> iassumption
  iexact HL

/-! ## The result -/

theorem wp_part15 (s : St F) (wo : Vec F S1024x1024 .f32) (Kt : _ → sProp 𝕄) :
    iprop(accS c s ∗ pts c cc0_stg2_0 wo ∗ ((accS c s ∗ pts c cc0_stg2_0 wo) -∗ Kt ⟨k0_pay44 s.o s.l,
        k0_pay45 s.o s.l (woRow wo 0 inb_S1024x1024_S128x1024_0_0) (woRow wo 128 inb_S1024x1024_S128x1024_128_0)
          (woRow wo 256 inb_S1024x1024_S128x1024_256_0) (woRow wo 384 inb_S1024x1024_S128x1024_384_0)
          (woRow wo 512 inb_S1024x1024_S128x1024_512_0) (woRow wo 640 inb_S1024x1024_S128x1024_640_0)⟩))
      ⊢ wp frame (wpE (defs₀ (F := F)) 𝒱₀ (c : Thread nD τ) none) Set.univ (rp15 i s.o) Kt := by
  simp only [rp15, k0_part15_eq_skeleton, k0_part15_skel, Prog.lift, Prog.bind_op, Prog.bind_ret, Prog.pure_eq_ret, Prog.bind_assoc]
  unfold accS
  iintro ⟨⟨Ho, Hm, Hl⟩, Hw, Hk⟩
  iapply (wp_ld_l c s.l _ _) $$ Hl; iintro Hl
  iapply (wp_ld_wo c wo _ _) $$ Hw; iintro Hw
  iapply (wp_ld_wo c wo _ _) $$ Hw; iintro Hw
  iapply (wp_ld_wo c wo _ _) $$ Hw; iintro Hw
  iapply (wp_ld_wo c wo _ _) $$ Hw; iintro Hw
  iapply (wp_ld_wo c wo _ _) $$ Hw; iintro Hw
  iapply (wp_ld_wo c wo _ _) $$ Hw; iintro Hw
  rw [wp_ret]; imodintro
  iapply Hk
  isplitl [Ho Hm Hl]
  · isplitl [Ho]; · iexact Ho
    isplitl [Hm] <;> iassumption
  iexact Hw

/-! ## Together -/

def ringStart : sProp 𝕄 :=
  iprop(arriveStart c ∗ hopStart c 0 1 (by decide) (by decide) ∗ hopStart c 1 2 (by decide) (by decide) ∗ hopStart c 2 3 (by decide) (by decide))
/-- Every cell of the ring closed. -/
def ringEnd : sProp 𝕄 :=
  iprop(semVal (barCell c) 0 ∗ hopDone c 0 1 (by decide) (by decide) ∗ hopDone c 1 2 (by decide) (by decide) ∗ hopDone c 2 3 (by decide) (by decide))

/-- The accumulators after the three merges. -/
def mergedAt (s : St F) : St F := merge3 (M (back c 3)) (merge2 (M (back c 2)) (merge1 (M (back c 1)) s))

def tailPost (wo : Vec F S1024x1024 .f32) (s : St F) : sProp 𝕄 :=
  iprop(ringEnd c ∗ owesAny c 0 ∗ accS c (mergedAt c M s) ∗ (∃ f : Vec F S4x2x512x256 .f32, pts c cc0_scratch7 f)
    ∗ pts c cc0_stg2_0 wo ∗ pts c cc0_stg3_0 (outOf wo (mergedAt c M s)))

/-- The result block, written out. -/
theorem outOf_eq (wo : Vec F S1024x1024 .f32) (s : St F) : outOf wo s = k0_pay2 (k0_pay44 s.o s.l)
    (k0_pay45 s.o s.l (woRow wo 0 inb_S1024x1024_S128x1024_0_0) (woRow wo 128 inb_S1024x1024_S128x1024_128_0)
      (woRow wo 256 inb_S1024x1024_S128x1024_256_0) (woRow wo 384 inb_S1024x1024_S128x1024_384_0)
      (woRow wo 512 inb_S1024x1024_S128x1024_512_0) (woRow wo 640 inb_S1024x1024_S128x1024_640_0))
    (woRow wo 768 inb_S1024x1024_S128x1024_768_0) (woRow wo 896 inb_S1024x1024_S128x1024_896_0) := rfl

theorem tail_intro (wo : Vec F S1024x1024 .f32) (s : St F) :
    let m := merge3 (M (back c 3)) (merge2 (M (back c 2)) (merge1 (M (back c 1)) s))
    iprop(semVal (barCell c) 0 ∗ hopDone c 0 1 (by decide) (by decide) ∗ hopDone c 1 2 (by decide) (by decide) ∗ hopDone c 2 3 (by decide) (by decide)
      ∗ owesAny c 0 ∗ accS c m ∗ sentPay (F := F) c 0 (by decide) ∗ sentPay (F := F) c 1 (by decide) ∗ sentPay (F := F) c 2 (by decide)
      ∗ slabP c 3 (by decide) (M (back c 3)) ∗ pts c cc0_stg2_0 wo
      ∗ pts c cc0_stg3_0 (k0_pay2 (k0_pay44 m.o m.l)
    (k0_pay45 m.o m.l (woRow wo 0 inb_S1024x1024_S128x1024_0_0) (woRow wo 128 inb_S1024x1024_S128x1024_128_0)
      (woRow wo 256 inb_S1024x1024_S128x1024_256_0) (woRow wo 384 inb_S1024x1024_S128x1024_384_0)
      (woRow wo 512 inb_S1024x1024_S128x1024_512_0) (woRow wo 640 inb_S1024x1024_S128x1024_640_0))
    (woRow wo 768 inb_S1024x1024_S128x1024_768_0) (woRow wo 896 inb_S1024x1024_S128x1024_896_0)))
    ⊢ tailPost c M wo s := by
  intro m
  rw [← outOf_eq wo m]
  unfold tailPost ringEnd mergedAt
  iintro ⟨Hz, HD1, HD2, HD3, HO, Hacc, HS0, HS1, HS2, HL3, Hw, Hout⟩
  isplitl [Hz HD1 HD2 HD3]
  · isplitl [Hz]; · iexact Hz
    isplitl [HD1]; · iexact HD1
    isplitl [HD2] <;> iassumption
  isplitl [HO]; · iexact HO
  isplitl [Hacc]; · iexact Hacc
  isplitl [HS0 HS1 HS2 HL3]
  · iapply (slabs_join c)
    isplitl [HS0]; · iexact HS0
    isplitl [HS1]; · iexact HS1
    isplitl [HS2]; · iexact HS2
    iapply (slabP_sent c); iexact HL3
  isplitl [Hw] <;> iassumption

theorem wp_tail (hi : (i 0).val = 31) (s : St F) (hM : M c = msgOf s) (wo : Vec F S1024x1024 .f32) (f : Vec F S4x2x512x256 .f32) (g : Vec F S1x128x1024 .f32)
    (Kt : PUnit → sProp 𝕄) :
    iprop(records M K ∗ levAts L lv ∗ accS c s ∗ pts c cc0_scratch7 f ∗ owesAny c (O₀ c) ∗ ringStart c ∗ pts c cc0_stg2_0 wo ∗ pts c cc0_stg3_0 g
        ∗ (tailPost c M wo s -∗ Kt ⟨⟩))
      ⊢ wp frame (wpE (defs₀ (F := F)) 𝒱₀ (c : Thread nD τ) none) Set.univ (ringTail i) Kt := by
  have h3 : k0_cond3 i = 1#1 := (cond3_iff i).2 hi
  unfold ringTail ringStart
  rw [dif_pos h3]
  simp only [Prog.bind_assoc]
  iintro ⟨#HR, #Hlev, Hacc, Hc, HO, ⟨HA, HH1, HH2, HH3⟩, Hw, Hout, Hk⟩
  rw [wp_bind]
  iapply (wp_part7 c i s f)
  isplitl [Hacc]; · iexact Hacc
  isplitl [Hc]; · iexact Hc
  iintro %v141 %v153 ⟨Hacc, Hc⟩
  rw [wp_bind]
  iapply (wp_part8 c i M K h3 v141 v153 s f hM)
  isplitr; · iexact HR
  isplitr; · iexact Hlev
  isplitl [Hacc]; · iexact Hacc
  isplitl [Hc]; · iexact Hc
  isplitl [HO]; · iexact HO
  isplitl [HA]; · iexact HA
  isplitl [HH1]; · iexact HH1
  iintro ⟨Hacc, HO, Hz, HH1, HN2, HN3⟩
  rw [wp_bind]
  iapply (wp_part9 c i M K v141 s)
  isplitr; · iexact HR
  isplitr; · iexact Hlev
  isplitl [Hacc]; · iexact Hacc
  isplitl [HO]; · iexact HO
  isplitl [HH1]; · iexact HH1
  iintro ⟨Hacc, HO, HD1, HS0, HL1⟩
  rw [wp_bind]
  iapply (wp_part10 c i v141 (M (back c 1)) s)
  isplitl [Hacc]; · iexact Hacc
  iintro Hacc
  rw [wp_bind]
  iapply (wp_part11 c i M K h3 v141)
  isplitr; · iexact HR
  isplitr; · iexact Hlev
  isplitl [HO]; · iexact HO
  isplitl [HH2]; · iexact HH2
  isplitl [HL1]; · iexact HL1
  isplitl [HN2]; · iexact HN2
  iintro ⟨HO, HD2, HS1, HL2⟩
  rw [wp_bind]
  iapply (wp_part12 c i v141 (M (back c 2)) _)
  isplitl [Hacc]; · iexact Hacc
  isplitl [HL2]; · iexact HL2
  iintro ⟨Hacc, HL2⟩
  rw [wp_bind]
  iapply (wp_part13 c i M K h3 v141)
  isplitr; · iexact HR
  isplitr; · iexact Hlev
  isplitl [HO]; · iexact HO
  isplitl [HH3]; · iexact HH3
  isplitl [HL2]; · iexact HL2
  isplitl [HN3]; · iexact HN3
  iintro ⟨HO, HD3, HS2, HL3⟩
  rw [wp_bind]
  iapply (wp_part14 c i (M (back c 3)) _)
  isplitl [Hacc]; · iexact Hacc
  isplitl [HL3]; · iexact HL3
  iintro ⟨Hacc, HL3⟩
  rw [wp_bind]
  iapply (wp_part15 c i _ wo)
  isplitl [Hacc]; · iexact Hacc
  isplitl [Hw]; · iexact Hw
  iintro ⟨Hacc, Hw⟩
  simp only [Prog.lift, Prog.bind_op, Prog.bind_ret, Prog.pure_eq_ret, Prog.bind_assoc]
  iapply (wp_ld_wo c wo _ _) $$ Hw; iintro Hw
  iapply (wp_ld_wo c wo _ _) $$ Hw; iintro Hw
  iapply (wp_ld_out c g _ _) $$ Hout; iintro Hout
  iapply (wp_st_out c g _ _ _ _) $$ Hout; iintro Hout
  rw [wp_ret]; imodintro
  iapply Hk
  iapply (tail_intro c M wo s)
  isplitl [Hz]; · iexact Hz
  isplitl [HD1]; · iexact HD1
  isplitl [HD2]; · iexact HD2
  isplitl [HD3]; · iexact HD3
  isplitl [HO]; · iexact HO
  isplitl [Hacc]; · iexact Hacc
  isplitl [HS0]; · iexact HS0
  isplitl [HS1]; · iexact HS1
  isplitl [HS2]; · iexact HS2
  isplitl [HL3]; · iexact HL3
  isplitl [Hw]; · iexact Hw
  iexact Hout

end Cert.RingAttn

end
-- ==== Proof.Point.lean ====
/-
# One grid point

The proof data of the grid loop — what each device holds before and after every point — and the body's obligation at a point:
the chunk, then at the last point the exchange.
-/
module

public import proofs.«01_k».proof.Proof.Tail
public import proofs.«01_k».proof.Proof.Gen.KernelIdeal.Points
public import proofs.«01_k».proof.Proof.Gen.KernelIdeal.Frame

@[expose] public section

noncomputable section

namespace Cert.RingAttn

open Cert.KernelIdeal Cert.KernelIdeal.Gen

open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's arguments and what it computes -/

def xAt (c : Dev nD) : Vec F S1x128x1024 .f32 := m ((c : Thread nD τ).loc main_arg0)
def wqAt (c : Dev nD) : Vec F S1024x1024 .f32 := m ((c : Thread nD τ).loc main_arg1)
def woAt (c : Dev nD) : Vec F S1024x1024 .f32 := m ((c : Thread nD τ).loc main_arg2)
def kAt (c : Dev nD) : Vec F S1x32768x2x128 .f32 := m ((c : Thread nD τ).loc main_arg3)
def vAt (c : Dev nD) : Vec F S1x32768x2x128 .f32 := m ((c : Thread nD τ).loc main_arg4)

/-- A device's accumulators after all its chunks, -/
def endSt (c : Dev nD) : St F := stAt (qC (xAt m c) (wqAt m c)) (kAt m c) (vAt m c) 32
/-- the message they make, -/
def msgs (c : Dev nD) : Msg F := msgOf (endSt m c)
/-- and the device's result block. -/
def outAt (c : Dev nD) : Vec F S1x128x1024 .f32 := outOf (woAt m c) (mergedAt c (msgs m) (endSt m c))

/-! ## The proof data -/

variable (c : Dev nD)

theorem zero_off (o : ℕ) (ho : o = 0) (k : ℕ) (hk : k = 1) (x : ℕ) : o + k * x = x := by subst ho hk; omega

/-- The two semaphores of the exchange that no copy uses. -/
def spare : sProp 𝕄 := iprop(semVal (sendCell c 3 (by decide)) 0 ∗ semVal (recvCell c 0 (by decide)) 0)

/-- Before point `t`: the chunk loop's holdings and everything the exchange will take. -/
def phiRun (t : ℕ) : sProp 𝕄 :=
  iprop(localAt c (kAt m c) (vAt m c) (xAt m c) (wqAt m c) t ∗ (∃ K, records (msgs m) K) ∗ levAts L lv ∗ ringStart c
    ∗ (∃ f : Vec F S4x2x512x256 .f32, pts c cc0_scratch7 f) ∗ spare c)
/-- After the last point. -/
def phiEnd : sProp 𝕄 :=
  iprop((freeAt c (kAt m c) (vAt m c) 0 ∗ freeAt c (kAt m c) (vAt m c) 1 ∗ freeAt c (kAt m c) (vAt m c) 2 ∗ freeAt c (kAt m c) (vAt m c) 3) ∗ accAny c
    ∗ ringEnd c ∗ (∃ f : Vec F S4x2x512x256 .f32, pts c cc0_scratch7 f) ∗ spare c)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := if t.val < 32 then phiRun m c t.val else phiEnd m c
  q _ := fullShare
  owed t := if t.val < 32 then O₀ c else 0

/-- Each input window's block is the whole array. -/
theorem blk_x (t : Fin cfg0.N) : iblk m c 0 t = xAt m c := by
  funext j; unfold iblk xAt
  exact congrArg (m ((c : Thread nD τ).loc main_arg0)) (funext fun a => Fin.ext (zero_off (((win0 0).rect t).off a) (by fin_cases a <;> rfl) _ (by fin_cases a <;> rfl) (j a).val))
theorem blk_wq (t : Fin cfg0.N) : iblk m c 1 t = wqAt m c := by
  funext j; unfold iblk wqAt
  exact congrArg (m ((c : Thread nD τ).loc main_arg1)) (funext fun a => Fin.ext (zero_off (((win0 1).rect t).off a) (by fin_cases a <;> rfl) _ (by fin_cases a <;> rfl) (j a).val))
theorem blk_wo (t : Fin cfg0.N) : iblk m c 2 t = woAt m c := by
  funext j; unfold iblk woAt
  exact congrArg (m ((c : Thread nD τ).loc main_arg2)) (funext fun a => Fin.ext (zero_off (((win0 2).rect t).off a) (by fin_cases a <;> rfl) _ (by fin_cases a <;> rfl) (j a).val))

theorem before_x (t : Fin cfg0.N) (d) : (dats m 0 c).before 0 t d = xAt m c :=
  (((dats m 0 c).before_in_eq_fetched 0 rfl (fun _ => rfl) (fun _ _ _ => rfl) (fun t => rfl) t d).trans
    (by unfold Dat.fetched Dat.blockOf; rfl)).trans (blk_x m c t)
theorem before_wq (t : Fin cfg0.N) (d) : (dats m 0 c).before 1 t d = wqAt m c :=
  (((dats m 0 c).before_in_eq_fetched 1 rfl (fun _ => rfl) (fun _ _ _ => rfl) (fun t => rfl) t d).trans
    (by unfold Dat.fetched Dat.blockOf; rfl)).trans (blk_wq m c t)
theorem before_wo (t : Fin cfg0.N) (d) : (dats m 0 c).before 2 t d = woAt m c :=
  (((dats m 0 c).before_in_eq_fetched 2 rfl (fun _ => rfl) (fun _ _ _ => rfl) (fun t => rfl) t d).trans
    (by unfold Dat.fetched Dat.blockOf; rfl)).trans (blk_wo m c t)

/-! ## The body -/

theorem point_val : ∀ t : Fin grid0.N, (grid0.coords t 0).val = t.val := by decide +kernel

/-- A staging buffer owned whole is its points-to. -/
theorem owns_pts (b : Ref sig .tc) (X : b.ty.Contents (Elt F)) :
    (owns (Ix := Unit) (Name := ℕ) (U := UU) (Lvl := ℕ) (c : Thread nD τ) (Memref.whole b) fullShare X : sProp 𝕄) ⊢ pts c b X := by
  unfold owns; simp only [Memref.view_whole, View.read_whole, View.set_whole]
  iintro ⟨%f, %h, H⟩; subst h; iexact H
theorem pts_owns (b : Ref sig .tc) (X : b.ty.Contents (Elt F)) :
    pts c b X ⊢ (owns (Ix := Unit) (Name := ℕ) (U := UU) (Lvl := ℕ) (c : Thread nD τ) (Memref.whole b) fullShare X : sProp 𝕄) := by
  unfold owns; simp only [Memref.view_whole, View.read_whole, View.set_whole]
  iintro H; iexists X; isplitr; · ipureintro; rfl
  iexact H

theorem wp_tail_skip (i : grid0.Coords) (hi : (i 0).val ≠ 31) (Kt : PUnit → sProp 𝕄) :
    Kt ⟨⟩ ⊢ wp frame (wpE (defs₀ (F := F)) 𝒱₀ (c : Thread nD τ) none) Set.univ (ringTail i) Kt := by
  have h3 : ¬ k0_cond3 i = 1#1 := fun h => hi ((cond3_iff i).1 h)
  unfold ringTail
  rw [dif_neg h3]
  simp only [Prog.bind_ret, Prog.pure_eq_ret]
  iintro H; rw [wp_ret]; imodintro; iexact H

abbrev bodyAt (i : grid0.Coords) : Prog (TpuEff nD τ sig (Elt F) Λ₀ .tc) PUnit :=
  cc0_body i xM (Memref.isWhole_whole _) wqM (Memref.isWhole_whole _) woM (Memref.isWhole_whole _) kA (Memref.isWhole_whole _) vA (Memref.isWhole_whole _) outM (Memref.isWhole_whole _) qM (Memref.isWhole_whole _) oM (Memref.isWhole_whole _) mM (Memref.isWhole_whole _) lM (Memref.isWhole_whole _) kB (Memref.isWhole_whole _) vB (Memref.isWhole_whole _) cc0_scratch6 cB (Memref.isWhole_whole _) cc0_scratch8 cc0_scratch9

theorem localAt_succ (K V : Vec F S1x32768x2x128 .f32) (x : Vec F S1x128x1024 .f32) (wq : Vec F S1024x1024 .f32) (t : ℕ) :
    localAt c K V x wq (t + 1) = warmLocal c K V x wq (t + 1) := if_neg (Nat.succ_ne_zero t)

/-- At a point that is not the last. -/
theorem point_mid (i : grid0.Coords) (hi : (i 0).val ≠ 31) (Kt : PUnit → sProp 𝕄) :
    iprop(phiRun m c (i 0).val ∗ owesAny c (O₀ c) ∗ pts c cc0_stg0_0 (xAt m c) ∗ pts c cc0_stg1_0 (wqAt m c)
        ∗ ((phiRun m c ((i 0).val + 1) ∗ owesAny c (O₀ c) ∗ pts c cc0_stg0_0 (xAt m c) ∗ pts c cc0_stg1_0 (wqAt m c)) -∗ Kt ⟨⟩))
      ⊢ wp frame (wpE (defs₀ (F := F)) 𝒱₀ (c : Thread nD τ) none) Set.univ (bodyAt i) Kt := by
  unfold bodyAt phiRun
  rw [body_eq, localAt_succ]
  iintro ⟨⟨Hloc, HR, #Hlev, Hring, Hc, Hsp⟩, HO, Hx, Hw, Hk⟩
  iapply (wp_chunk c (kAt m c) (vAt m c) (xAt m c) (wqAt m c) i (ringTail i) Kt (above5 c))
  isplitl [Hloc]; · iexact Hloc
  isplitl [Hx]; · iexact Hx
  isplitl [Hw]; · iexact Hw
  isplitl [HO]; · iexact HO
  isplitr; · iexact Hlev
  unfold chunkPost
  iintro ⟨Hloc, Hx, Hw, HO⟩
  iapply (wp_tail_skip c i hi)
  iapply Hk
  isplitl [Hloc HR Hring Hc Hsp]
  · isplitl [Hloc]; · iexact Hloc
    isplitl [HR]; · iexact HR
    isplitr; · iexact Hlev
    isplitl [Hring]; · iexact Hring
    isplitl [Hc] <;> iassumption
  isplitl [HO]; · iexact HO
  isplitl [Hx] <;> iassumption

theorem freeAt_end (K V : Vec F S1x32768x2x128 .f32) (x : Vec F S1x128x1024 .f32) (wq : Vec F S1024x1024 .f32) :
    warmLocal c K V x wq 32 = iprop(freeAt c K V 0 ∗ freeAt c K V 1 ∗ freeAt c K V 2 ∗ freeAt c K V 3 ∗ accAt c K V x wq 32) := by
  unfold warmLocal
  rw [fillAt_of_ge c K V (t := 32) (by decide), fillAt_of_ge c K V (t := 32 + 1) (by decide)]; rfl

/-- At the last point. -/
theorem point_last (i : grid0.Coords) (hi : (i 0).val = 31) (g : Vec F S1x128x1024 .f32) (Kt : PUnit → sProp 𝕄) :
    iprop(phiRun m c 31 ∗ owesAny c (O₀ c) ∗ pts c cc0_stg0_0 (xAt m c) ∗ pts c cc0_stg1_0 (wqAt m c) ∗ pts c cc0_stg2_0 (woAt m c) ∗ pts c cc0_stg3_0 g
        ∗ ((phiEnd m c ∗ owesAny c 0 ∗ pts c cc0_stg0_0 (xAt m c) ∗ pts c cc0_stg1_0 (wqAt m c) ∗ pts c cc0_stg2_0 (woAt m c)
            ∗ pts c cc0_stg3_0 (outAt m c)) -∗ Kt ⟨⟩))
      ⊢ wp frame (wpE (defs₀ (F := F)) 𝒱₀ (c : Thread nD τ) none) Set.univ (bodyAt i) Kt := by
  unfold bodyAt phiRun phiEnd
  rw [body_eq]
  iintro ⟨⟨Hloc, ⟨%K, #HR⟩, #Hlev, Hring, ⟨%f, Hc⟩, Hsp⟩, HO, Hx, Hw, Hwo, Hout, Hk⟩
  iapply (wp_chunk c (kAt m c) (vAt m c) (xAt m c) (wqAt m c) i (ringTail i) Kt (above5 c))
  rw [hi]
  isplitl [Hloc]; · iexact Hloc
  isplitl [Hx]; · iexact Hx
  isplitl [Hw]; · iexact Hw
  isplitl [HO]; · iexact HO
  isplitr; · iexact Hlev
  unfold chunkPost
  rw [show 31 + 1 = 32 from rfl, freeAt_end]
  unfold accAt
  iintro ⟨⟨H0, H1, H2, H3, Hq, Hacc⟩, Hx, Hw, HO⟩
  iapply (wp_tail c i (msgs m) K hi (endSt m c) rfl (woAt m c) f g Kt)
  isplitr; · iexact HR
  isplitr; · iexact Hlev
  isplitl [Hacc]; · unfold accS endSt; iexact Hacc
  isplitl [Hc]; · iexact Hc
  isplitl [HO]; · iexact HO
  isplitl [Hring]; · iexact Hring
  isplitl [Hwo]; · iexact Hwo
  isplitl [Hout]; · iexact Hout
  unfold tailPost accS accAny
  iintro ⟨He, HO, ⟨Ho, Hm, Hl⟩, Hc, Hwo, Hout⟩
  iapply Hk
  isplitl [H0 H1 H2 H3 Hq Ho Hm Hl He Hc Hsp]
  · isplitl [H0 H1 H2 H3]
    · isplitl [H0]; · iexact H0
      isplitl [H1]; · iexact H1
      isplitl [H2] <;> iassumption
    isplitl [Hq Ho Hm Hl]
    · isplitl [Hq]; · iexists _; iexact Hq
      isplitl [Ho]; · iexists _; iexact Ho
      isplitl [Hm]; · iexists _; iexact Hm
      iexists _; iexact Hl
    isplitl [He]; · iexact He
    isplitl [Hc] <;> iassumption
  isplitl [HO]; · iexact HO
  isplitl [Hx]; · iexact Hx
  isplitl [Hw]; · iexact Hw
  isplitl [Hwo]; · iexact Hwo
  unfold outAt; iexact Hout

/-! ## The body obligation -/

theorem owes_in (t : Fin (cfg0.N + 1)) : (dats m 0 c).owesAt () t ⊢ owesAny c ((dats m 0 c).owed t) := by
  unfold Dat.owesAt Pipeline.owesWithin owesAny
  iintro ⟨%W, %h, H⟩; iexists W; iexact H
theorem owes_out (t : Fin (cfg0.N + 1)) : owesAny c ((dats m 0 c).owed t) ⊢ (dats m 0 c).owesAt () t := by
  unfold Dat.owesAt Pipeline.owesWithin owesAny
  iintro ⟨%W, H⟩; iexists W
  isplitr; · ipureintro; exact fun _ _ => Or.inl trivial
  iexact H

theorem N32 (t : Fin cfg0.N) : t.val < 32 := lt_of_lt_of_eq t.isLt N_0

theorem owed_run (t : Fin (cfg0.N + 1)) (h : t.val < 32) : (dats m 0 c).owed t = O₀ c := if_pos h
theorem owed_end (t : Fin (cfg0.N + 1)) (h : ¬ t.val < 32) : (dats m 0 c).owed t = 0 := if_neg h
theorem phi_run (t : Fin (cfg0.N + 1)) (h : t.val < 32) : (dats m 0 c).Φ t = phiRun m c t.val := if_pos h
theorem phi_end (t : Fin (cfg0.N + 1)) (h : ¬ t.val < 32) : (dats m 0 c).Φ t = phiEnd m c := if_neg h

/-- The staging buffers the windows use: each has one. -/
theorem slots_zero (σ : (w : Fin cfg0.W) → Fin (cfg0.win w).nbuf) : σ = fun w => match w with
    | ⟨0, _⟩ => (0 : Fin 1) | ⟨1, _⟩ => (0 : Fin 1) | ⟨2, _⟩ => (0 : Fin 1) | ⟨3, _⟩ => (0 : Fin 1) := by
  funext w; fin_cases w <;> exact Subsingleton.elim (α := Fin 1) _ _

/-- The window idle at `t`: the result's, but at the last point. -/
theorem idle_3 (t : Fin cfg0.N) : idle0 3 (grid0.coords t) = !decide (t.val = 31) := by
  show (!(k0_cond3 (grid0.coords t) == 1#1)) = !decide (t.val = 31)
  congr 1
  rw [Bool.eq_iff_iff, beq_iff_eq, decide_eq_true_iff, cond3_iff, point_val t]

theorem flush_3 (t : Fin cfg0.N) : (cfg0.win 3).flush t = decide (t.val = 31) := by
  have h := N32 t
  rw [Bool.eq_iff_iff, flush0_3, decide_eq_true_iff]; omega

/-- What the result's window is left with. -/
def leftOut (t : Fin cfg0.N) : sProp 𝕄 :=
  match idle0 3 (grid0.coords t) with
  | true => match (cfg0.win 3).flush t with
    | false => iprop(∃ d, owns (c : Thread nD τ) outM fullShare ((dats m 0 c).before 3 t d))
    | true => owns (c : Thread nD τ) outM fullShare (outAt m c)
  | false => owns (c : Thread nD τ) outM fullShare (outAt m c)

theorem leftOut_mid (t : Fin cfg0.N) (h : t.val ≠ 31) : leftOut m c t = iprop(∃ d, owns (c : Thread nD τ) outM fullShare ((dats m 0 c).before 3 t d)) := by
  unfold leftOut; rw [idle_3, flush_3, decide_eq_false h]; rfl
theorem leftOut_last (t : Fin cfg0.N) (h : t.val = 31) : leftOut m c t = owns (c : Thread nD τ) outM fullShare (outAt m c) := by
  unfold leftOut; rw [idle_3, flush_3, decide_eq_true h]; rfl

theorem bodyObligation : BodyObligation (dats (F := F) m 0 c) (defs₀ (F := F)) 𝒱₀ () Set.univ := fun t => by
  rw [bigSep_W0, bigSep_W0]
  generalize cfg0.slots t = σ
  obtain rfl := slots_zero σ
  show iprop((dats m 0 c).Φ t.castSucc ∗ (dats m 0 c).owesAt () t.castSucc
      ∗ (∃ d, owns (c : Thread nD τ) xM fullShare ((dats m 0 c).before 0 t d)) ∗ (∃ d, owns (c : Thread nD τ) wqM fullShare ((dats m 0 c).before 1 t d))
      ∗ (∃ d, owns (c : Thread nD τ) woM fullShare ((dats m 0 c).before 2 t d)) ∗ (∃ d, owns (c : Thread nD τ) outM fullShare ((dats m 0 c).before 3 t d)))
    ⊢ wp frame (wpE (defs₀ (F := F)) 𝒱₀ (c : Thread nD τ) none) Set.univ (bodyAt (grid0.coords t)) fun _ =>
      iprop((dats m 0 c).Φ t.succ ∗ (dats m 0 c).owesAt () t.succ ∗ owns (c : Thread nD τ) xM fullShare (iblk m c 0 t)
        ∗ owns (c : Thread nD τ) wqM fullShare (iblk m c 1 t) ∗ owns (c : Thread nD τ) woM fullShare (iblk m c 2 t) ∗ leftOut m c t)
  simp only [before_x, before_wq, before_wo, blk_x, blk_wq, blk_wo]
  rw [phi_run m c t.castSucc (N32 t)]
  iintro ⟨HΦ, HO, ⟨%d0, Hx⟩, ⟨%d1, Hw⟩, ⟨%d2, Hwo⟩, ⟨%d3, Hout⟩⟩
  ihave HO := (owes_in m c t.castSucc) $$ HO
  rw [owed_run m c t.castSucc (N32 t)]
  ihave Hx := (owns_pts c cc0_stg0_0 (xAt m c)) $$ Hx
  ihave Hw := (owns_pts c cc0_stg1_0 (wqAt m c)) $$ Hw
  by_cases h : t.val = 31
  · rw [phi_end m c t.succ (by rw [Fin.val_succ]; omega), leftOut_last m c t h, show t.castSucc.val = 31 from h]
    ihave Hwo := (owns_pts c cc0_stg2_0 (woAt m c)) $$ Hwo
    ihave Hout := (owns_pts c cc0_stg3_0 _) $$ Hout
    iapply (point_last m c (grid0.coords t) ((point_val t).trans h) ((dats m 0 c).before 3 t d3) _)
    isplitl [HΦ]; · iexact HΦ
    isplitl [HO]; · iexact HO
    isplitl [Hx]; · iexact Hx
    isplitl [Hw]; · iexact Hw
    isplitl [Hwo]; · iexact Hwo
    isplitl [Hout]; · iexact Hout
    iintro ⟨HΦ, HO, Hx, Hw, Hwo, Hout⟩
    isplitl [HΦ]; · iexact HΦ
    isplitl [HO]
    · iapply (owes_out m c t.succ); rw [owed_end m c t.succ (by rw [Fin.val_succ]; omega)]; iexact HO
    isplitl [Hx]; · iapply (pts_owns c cc0_stg0_0); iexact Hx
    isplitl [Hw]; · iapply (pts_owns c cc0_stg1_0); iexact Hw
    isplitl [Hwo]; · iapply (pts_owns c cc0_stg2_0); iexact Hwo
    iapply (pts_owns c cc0_stg3_0); iexact Hout
  · have h' := N32 t
    rw [phi_run m c t.succ (by rw [Fin.val_succ]; omega), leftOut_mid m c t h, show t.castSucc.val = (grid0.coords t 0).val from (point_val t).symm,
      show t.succ.val = (grid0.coords t 0).val + 1 from by rw [Fin.val_succ, point_val t]]
    iapply (point_mid m c (grid0.coords t) (fun e => h ((point_val t).symm.trans e)) _)
    isplitl [HΦ]; · iexact HΦ
    isplitl [HO]; · iexact HO
    isplitl [Hx]; · iexact Hx
    isplitl [Hw]; · iexact Hw
    iintro ⟨HΦ, HO, Hx, Hw⟩
    isplitl [HΦ]; · iexact HΦ
    isplitl [HO]
    · iapply (owes_out m c t.succ); rw [owed_run m c t.succ (by rw [Fin.val_succ]; omega)]; iexact HO
    isplitl [Hx]; · iapply (pts_owns c cc0_stg0_0); iexact Hx
    isplitl [Hw]; · iapply (pts_owns c cc0_stg1_0); iexact Hw
    isplitl [Hwo]; · iexact Hwo
    iexists d3; iexact Hout

end Cert.RingAttn

end
-- ==== Proof.Cut.lean ====
/-
# Into the loop and out of it

The streaming buffers cut into their slots and put together again, the argument arrays' ownership cut into the copies' shares,
and the device's own semaphores by what they are for.
-/
module

public import proofs.«01_k».proof.Proof.Point
public import proofs.«01_k».proof.Proof.Gen.KernelIdeal.Launch

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots of the two streaming buffers -/

theorem slot_box (s g : ℕ) (hs : s < 4) (hg : g < 2) (i : S4x2x1024x128.Idx) :
    i ∈ (Rect.unit (s := S4x2x1024x128) ![s, g, 0, 0] S1x1x1024x128.size (slot_inb s g hs hg)).set ↔ (i 0).val = s ∧ (i 1).val = g := by
  have h2 : (i 2).val < 1024 := (i 2).isLt
  have h3 : (i 3).val < 128 := (i 3).isLt
  rw [Rect.mem_set_unit]
  constructor
  · intro H
    have a : s ≤ (i 0).val ∧ (i 0).val < s + 1 := H 0
    have b : g ≤ (i 1).val ∧ (i 1).val < g + 1 := H 1
    omega
  · intro a k
    match k with
    | 0 => show s ≤ (i 0).val ∧ (i 0).val < s + 1; omega
    | 1 => show g ≤ (i 1).val ∧ (i 1).val < g + 1; omega
    | 2 => show 0 ≤ (i 2).val ∧ (i 2).val < 0 + 1024; omega
    | 3 => show 0 ≤ (i 3).val ∧ (i 3).val < 0 + 128; omega

theorem mem_slotK (s g : ℕ) (hs : s < 4) (hg : g < 2) (i : S4x2x1024x128.Idx) : i ∈ (slotM kB s g hs hg).view.set ↔ (i 0).val = s ∧ (i 1).val = g := by
  rw [show (slotM kB s g hs hg).view.set = ((View.whole cc0_scratch4).slice (Rect.unit (s := S4x2x1024x128) ![s, g, 0, 0] S1x1x1024x128.size (slot_inb s g hs hg))).set
    from View.set_reshape (v := kB.view.slice _) (s' := S1024x128) squeezes_S1x1x1024x128_S1024x128.numel_eq, View.set_slice_whole]
  exact slot_box s g hs hg i
theorem mem_slotV (s g : ℕ) (hs : s < 4) (hg : g < 2) (i : S4x2x1024x128.Idx) : i ∈ (slotM vB s g hs hg).view.set ↔ (i 0).val = s ∧ (i 1).val = g := by
  rw [show (slotM vB s g hs hg).view.set = ((View.whole cc0_scratch5).slice (Rect.unit (s := S4x2x1024x128) ![s, g, 0, 0] S1x1x1024x128.size (slot_inb s g hs hg))).set
    from View.set_reshape (v := vB.view.slice _) (s' := S1024x128) squeezes_S1x1x1024x128_S1024x128.numel_eq, View.set_slice_whole]
  exact slot_box s g hs hg i

/-- A family of element sets, one per slot and head group, each the elements at that slot and group, partitions the buffer. -/
theorem slot_parts (I : Fin 4 × Fin 2 → Finset S4x2x1024x128.Idx) (hI : ∀ u i, i ∈ I u ↔ (i 0).val = u.1.val ∧ (i 1).val = u.2.val) :
    (∀ b b', b ≠ b' → Disjoint (I b) (I b')) ∧ Finset.univ.biUnion I = Finset.univ := by
  refine ⟨fun b b' h => Finset.disjoint_left.2 fun i hi hi' => h ?_, Finset.eq_univ_iff_forall.2 fun i => ?_⟩
  · have e := (hI b i).1 hi
    have e' := (hI b' i).1 hi'
    exact Prod.ext (Fin.ext (e.1.symm.trans e'.1)) (Fin.ext (e.2.symm.trans e'.2))
  · exact Finset.mem_biUnion.2 ⟨(⟨(i 0).val, (i 0).isLt⟩, ⟨(i 1).val, (i 1).isLt⟩), Finset.mem_univ _, (hI _ i).2 ⟨rfl, rfl⟩⟩

variable (c : Dev nD)

/-- A slot's two head groups, each at some contents. -/
def slotPair (b : KvBuf) (s : ℕ) (hs : s < 4) : sProp 𝕄 :=
  iprop((∃ f : Buf (Elt F) ((slotM b s 0 hs (by decide)).view.loc (c : Thread nD τ)), (slotM b s 0 hs (by decide)).view.loc (c : Thread nD τ) ↦[(slotM b s 0 hs (by decide)).view.set]{fullShare} f)
    ∗ (∃ f : Buf (Elt F) ((slotM b s 1 hs (by decide)).view.loc (c : Thread nD τ)), (slotM b s 1 hs (by decide)).view.loc (c : Thread nD τ) ↦[(slotM b s 1 hs (by decide)).view.set]{fullShare} f))

theorem fin2_sep (P : Fin 2 → sProp 𝕄) : bigSep Finset.univ P = iprop(P 0 ∗ P 1) := by
  rw [bigSep_univ_eq_bigSepL [0, 1] (by decide) (by decide), bigSepL_cons_cons, bigSepL_singleton]; rfl

abbrev setK (u : Fin 4 × Fin 2) : Finset (Idx (((0 : Dev nD) : Thread nD τ).loc cc0_scratch4)) := (slotM kB u.1.val u.2.val u.1.isLt u.2.isLt).view.set
abbrev setV (u : Fin 4 × Fin 2) : Finset (Idx (((0 : Dev nD) : Thread nD τ).loc cc0_scratch5)) := (slotM vB u.1.val u.2.val u.1.isLt u.2.isLt).view.set
theorem partsK : (∀ b b', b ≠ b' → Disjoint (setK b) (setK b')) ∧ Finset.univ.biUnion setK = Finset.univ := slot_parts setK fun u i => mem_slotK _ _ _ _ i
theorem partsV : (∀ b b', b ≠ b' → Disjoint (setV b) (setV b')) ∧ Finset.univ.biUnion setV = Finset.univ := slot_parts setV fun u i => mem_slotV _ _ _ _ i

theorem pairs_eq (P : Fin 4 × Fin 2 → sProp 𝕄) : bigSep Finset.univ P = bigSep Finset.univ fun s : Fin 4 => iprop(P (s, 0) ∗ P (s, 1)) :=
  (bigSep_univ_prod P).trans (bigSep_congr fun s _ => fin2_sep fun g => P (s, g))

theorem cutK (f : Vec F S4x2x1024x128 .f32) : pts c cc0_scratch4 f ⊢ bigSep Finset.univ fun s : Fin 4 => slotPair (F := F) c kB s.val s.isLt := by
  refine (Entails.of_eq ((Ring.pointsTo_blocks (ℓ := (c : Thread nD τ).loc cc0_scratch4) setK partsK.1 partsK.2 f).trans (pairs_eq _))).trans (bigSep_mono fun s _ => ?_)
  show _ ⊢ slotPair _ _ _ _
  unfold slotPair
  iintro ⟨H0, H1⟩
  isplitl [H0]; · iexists f; iexact H0
  iexists f; iexact H1
theorem cutV (f : Vec F S4x2x1024x128 .f32) : pts c cc0_scratch5 f ⊢ bigSep Finset.univ fun s : Fin 4 => slotPair (F := F) c vB s.val s.isLt := by
  refine (Entails.of_eq ((Ring.pointsTo_blocks (ℓ := (c : Thread nD τ).loc cc0_scratch5) setV partsV.1 partsV.2 f).trans (pairs_eq _))).trans (bigSep_mono fun s _ => ?_)
  show _ ⊢ slotPair _ _ _ _
  unfold slotPair
  iintro ⟨H0, H1⟩
  isplitl [H0]; · iexists f; iexact H0
  iexists f; iexact H1

theorem joinK : (bigSep Finset.univ fun s : Fin 4 => slotPair (F := F) c kB s.val s.isLt) ⊢ (iprop(∃ f : Vec F S4x2x1024x128 .f32, pts c cc0_scratch4 f) : sProp 𝕄) :=
  (Entails.of_eq (pairs_eq fun u => iprop(∃ f : Buf (Elt F) ((c : Thread nD τ).loc cc0_scratch4), (c : Thread nD τ).loc cc0_scratch4 ↦[setK u]{fullShare} f)).symm).trans
    (Ring.pointsTo_blocks_join_exists (ℓ := (c : Thread nD τ).loc cc0_scratch4) setK partsK.1 partsK.2 (fun _ => (FloatOps.ofBits .f32 0 : F .f32)))
theorem joinV : (bigSep Finset.univ fun s : Fin 4 => slotPair (F := F) c vB s.val s.isLt) ⊢ (iprop(∃ f : Vec F S4x2x1024x128 .f32, pts c cc0_scratch5 f) : sProp 𝕄) :=
  (Entails.of_eq (pairs_eq fun u => iprop(∃ f : Buf (Elt F) ((c : Thread nD τ).loc cc0_scratch5), (c : Thread nD τ).loc cc0_scratch5 ↦[setV u]{fullShare} f)).symm).trans
    (Ring.pointsTo_blocks_join_exists (ℓ := (c : Thread nD τ).loc cc0_scratch5) setV partsV.1 partsV.2 (fun _ => (FloatOps.ofBits .f32 0 : F .f32)))

/-! ## The argument arrays' shares -/

/-- The two shares of slot `s` of an array. -/
def sharePair (b : Ref sig .tc) (A : b.ty.Contents (Elt F)) (s : ℕ) : sProp 𝕄 :=
  iprop((((c : Thread nD τ).loc b) ↦{laneShare s 0} (A : Buf (Elt F) ((c : Thread nD τ).loc b))) ∗ (((c : Thread nD τ).loc b) ↦{laneShare s 1} (A : Buf (Elt F) ((c : Thread nD τ).loc b))))
/-- What no copy takes. -/
def shareRest (b : Ref sig .tc) (A : b.ty.Contents (Elt F)) : sProp 𝕄 :=
  (((c : Thread nD τ).loc b) ↦{Transfers.shareDrop fullShare 8} (A : Buf (Elt F) ((c : Thread nD τ).loc b)))

theorem cutShares (b : Ref sig .tc) (A : b.ty.Contents (Elt F)) :
    pts c b A ⊢ iprop(shareRest c b A ∗ bigSep Finset.univ fun s : Fin 4 => sharePair c b A s.val) := by
  refine (Transfers.pointsTo_toks_split fullShare 8).trans (sep_mono_right (Entails.of_eq ?_))
  rw [bigSep_univ_equiv (finProdFinEquiv : Fin 4 × Fin 2 ≃ Fin 8), pairs_eq]
  refine bigSep_congr fun s _ => ?_
  unfold sharePair
  fin_cases s <;> rfl

/-! ## All four slots -/

/-- The four semaphores of a slot. -/
def semRow (s : ℕ) (hs : s < 4) : sProp 𝕄 :=
  iprop(semVal ((c : Thread nD τ), SemLoc.dma (kvS s 0 hs (by decide))) 0 ∗ semVal ((c : Thread nD τ), SemLoc.dma (kvS s 1 hs (by decide))) 0
    ∗ semVal ((c : Thread nD τ), SemLoc.dma (kvS s 2 hs (by decide))) 0 ∗ semVal ((c : Thread nD τ), SemLoc.dma (kvS s 3 hs (by decide))) 0)

def kvSems : sProp 𝕄 := bigSep Finset.univ fun s : Fin 4 => semRow (F := F) c s.val s.isLt

def allFree (K V : Vec F S1x32768x2x128 .f32) : sProp 𝕄 := iprop(freeAt c K V 0 ∗ freeAt c K V 1 ∗ freeAt c K V 2 ∗ freeAt c K V 3)

theorem allFree_eq (K V : Vec F S1x32768x2x128 .f32) : allFree c K V = bigSep Finset.univ fun s : Fin 4 => freeSlot c K V s.val s.isLt :=
  (fin4_sep fun s : Fin 4 => freeSlot c K V s.val s.isLt).symm

theorem slot_in (K V : Vec F S1x32768x2x128 .f32) (s : ℕ) (hs : s < 4) :
    iprop(semRow c s hs ∗ slotPair c kB s hs ∗ slotPair c vB s hs ∗ sharePair c main_arg3 K s ∗ sharePair c main_arg4 V s) ⊢ freeSlot c K V s hs := by
  unfold semRow slotPair sharePair freeSlot freeLane
  iintro ⟨⟨S0, S1, S2, S3⟩, ⟨K0, K1⟩, ⟨V0, V1⟩, ⟨A0, A1⟩, ⟨B0, B1⟩⟩
  isplitl [S0 K0 A0]
  · isplitl [S0]; · iexact S0
    isplitl [K0]; · iexact K0
    iexact A0
  isplitl [S1 K1 A1]
  · isplitl [S1]; · iexact S1
    isplitl [K1]; · iexact K1
    iexact A1
  isplitl [S2 V0 B0]
  · isplitl [S2]; · iexact S2
    isplitl [V0]; · iexact V0
    iexact B0
  isplitl [S3]; · iexact S3
  isplitl [V1]; · iexact V1
  iexact B1

theorem slot_out (K V : Vec F S1x32768x2x128 .f32) (s : ℕ) (hs : s < 4) :
    freeSlot c K V s hs ⊢ iprop(semRow c s hs ∗ slotPair c kB s hs ∗ slotPair c vB s hs) := by
  unfold semRow slotPair freeSlot freeLane
  iintro ⟨⟨S0, K0, -⟩, ⟨S1, K1, -⟩, ⟨S2, V0, -⟩, ⟨S3, V1, -⟩⟩
  isplitl [S0 S1 S2 S3]
  · isplitl [S0]; · iexact S0
    isplitl [S1]; · iexact S1
    isplitl [S2] <;> iassumption
  isplitl [K0 K1]
  · isplitl [K0]; · iexact K0
    iexact K1
  isplitl [V0]; · iexact V0
  iexact V1

theorem allFree_in (K V : Vec F S1x32768x2x128 .f32) (f4 f5 : Vec F S4x2x1024x128 .f32) :
    iprop(kvSems c ∗ pts c cc0_scratch4 f4 ∗ pts c cc0_scratch5 f5 ∗ (bigSep Finset.univ fun s : Fin 4 => sharePair c main_arg3 K s.val)
        ∗ (bigSep Finset.univ fun s : Fin 4 => sharePair c main_arg4 V s.val)) ⊢ allFree c K V := by
  rw [allFree_eq]
  refine BIBase.Entails.trans ?_ (bigSep_mono fun (s : Fin 4) _ => slot_in c K V s.val s.isLt)
  unfold kvSems
  rw [bigSep_sep', bigSep_sep', bigSep_sep', bigSep_sep']
  iintro ⟨HS, H4, H5, HA, HB⟩
  isplitl [HS]; · iexact HS
  isplitl [H4]; · iapply (cutK c f4); iexact H4
  isplitl [H5]; · iapply (cutV c f5); iexact H5
  isplitl [HA] <;> iassumption

theorem allFree_out (K V : Vec F S1x32768x2x128 .f32) :
    allFree c K V ⊢ iprop(kvSems c ∗ (∃ f : Vec F S4x2x1024x128 .f32, pts c cc0_scratch4 f) ∗ (∃ f : Vec F S4x2x1024x128 .f32, pts c cc0_scratch5 f)) := by
  rw [allFree_eq]
  refine (bigSep_mono fun (s : Fin 4) _ => slot_out c K V s.val s.isLt).trans ?_
  unfold kvSems
  rw [bigSep_sep', bigSep_sep']
  show _ ⊢ (iprop(_ ∗ _) : sProp 𝕄)
  iintro ⟨HS, H4, H5⟩
  isplitl [HS]; · iexact HS
  isplitl [H4]; · iapply (joinK c); iexact H4
  iapply (joinV c); iexact H5

/-! ## The device's own semaphores -/

def osem : Fin 24 → SemLoc sig := fun k => .dma ⟨4 + k.val, by have := k.isLt; show _ < 28; omega⟩

theorem ownSemFacts : Pipeline.OwnSemFacts cfg0.spec osem := by decide

/-- The send's and the receive's semaphores. -/
def sendSems : sProp 𝕄 := iprop(semVal (sendCell c 0 (by decide)) 0 ∗ semVal (sendCell c 1 (by decide)) 0 ∗ semVal (sendCell c 2 (by decide)) 0 ∗ semVal (sendCell c 3 (by decide)) 0)
def recvSems : sProp 𝕄 := iprop(semVal (recvCell c 0 (by decide)) 0 ∗ semVal (recvCell c 1 (by decide)) 0 ∗ semVal (recvCell c 2 (by decide)) 0 ∗ semVal (recvCell c 3 (by decide)) 0)

theorem ownSems_rows : (Pipeline.ownSems0 (Ix := Unit) (Name := ℕ) (U := UU) (Lvl := ℕ) (Val := Elt F) (τ := τ) osem c : sProp 𝕄)
    = iprop(semRow c 0 (by decide) ∗ semRow c 1 (by decide) ∗ semRow c 2 (by decide) ∗ semRow c 3 (by decide) ∗ sendSems c ∗ recvSems c) := by
  unfold Pipeline.ownSems0
  rw [bigSep_univ_equiv (finProdFinEquiv : Fin 6 × Fin 4 ≃ Fin 24), bigSep_univ_prod, bigSep_univ_eq_bigSepL [0, 1, 2, 3, 4, 5] (by decide) (by decide)]
  simp only [bigSepL_cons_cons, bigSepL_singleton, fin4_sep]
  unfold semRow sendSems recvSems
  rfl

theorem kvSems_eq : kvSems (F := F) c = iprop(semRow c 0 (by decide) ∗ semRow c 1 (by decide) ∗ semRow c 2 (by decide) ∗ semRow c 3 (by decide)) :=
  fin4_sep fun s : Fin 4 => semRow (F := F) c s.val s.isLt

theorem ownSems_split : (Pipeline.ownSems0 (Ix := Unit) (Name := ℕ) (U := UU) (Lvl := ℕ) (Val := Elt F) (τ := τ) osem c : sProp 𝕄)
    ⊢ iprop(kvSems c ∗ sendSems c ∗ recvSems c) := by
  rw [ownSems_rows, kvSems_eq]
  iintro ⟨R0, R1, R2, R3, HS, HR⟩
  isplitl [R0 R1 R2 R3]
  · isplitl [R0]; · iexact R0
    isplitl [R1]; · iexact R1
    isplitl [R2] <;> iassumption
  isplitl [HS] <;> iassumption
theorem ownSems_join : iprop(kvSems c ∗ sendSems c ∗ recvSems c)
    ⊢ (Pipeline.ownSems0 (Ix := Unit) (Name := ℕ) (U := UU) (Lvl := ℕ) (Val := Elt F) (τ := τ) osem c : sProp 𝕄) := by
  rw [ownSems_rows, kvSems_eq]
  iintro ⟨⟨R0, R1, R2, R3⟩, HS, HR⟩
  isplitl [R0]; · iexact R0
  isplitl [R1]; · iexact R1
  isplitl [R2]; · iexact R2
  isplitl [R3]; · iexact R3
  isplitl [HS] <;> iassumption

theorem unscopedSems_eq : (unscopedSems0 c : sProp 𝕄) = semVal (barCell c) 0 := by
  unfold unscopedSems0; rw [bigSep_eq_bigSepL_of_eq [SemLoc.reg barS] (by decide) (by decide)]; rfl

end Cert.RingAttn

end
-- ==== Proof.Deal.lean ====
/-
# Before the kernels start

The cells of the ring put under the schedule, the tokens dealt to the devices that pay the duties, and each device's credits.
-/
module

public import proofs.«01_k».proof.Proof.Cut

@[expose] public section

noncomputable section

namespace Cert.RingAttn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens at launch -/

/-- The cells' numbers tell them apart. -/
def kloc : Fin 7 → SemLoc sig
  | 0 => .reg barS
  | 1 => .dma (sendS 0 (by decide))
  | 2 => .dma (sendS 1 (by decide))
  | 3 => .dma (sendS 2 (by decide))
  | 4 => .dma (recvS 1 (by decide))
  | 5 => .dma (recvS 2 (by decide))
  | 6 => .dma (recvS 3 (by decide))
theorem kloc_inj : Function.Injective kloc := by decide +kernel
theorem kcell_eq (e : Dev nD × Fin 7) : kcell e = ((e.1 : Thread nD τ), kloc e.2) := by
  obtain ⟨c, k⟩ := e; fin_cases k <;> rfl

theorem kcell_injective : Function.Injective kcell := fun e e' h => by
  rw [kcell_eq, kcell_eq] at h
  exact Prod.ext (congrArg (fun g : GSem nD τ sig => g.1.1) h) (kloc_inj (congrArg Prod.snd h))

def ringCells : Finset (GSem nD τ sig) := Finset.univ.map ⟨kcell, kcell_injective⟩

def falseTok : Dev nD × Fin 7 ↪ GSem nD τ sig × ℕ × Bool := ⟨fun e => (kcell e, 0, false), fun _ _ h => kcell_injective (congrArg Prod.fst h)⟩
def trueTok : Dev nD ↪ GSem nD τ sig × ℕ × Bool := ⟨fun c => (barCell c, 0, true), fun _ _ h => congrArg (fun x : GSem nD τ sig × ℕ × Bool => x.1.1.1) h⟩

/-- Every cell's duty `false`; -/
def falseToks : Finset (GSem nD τ sig × ℕ × Bool) := Finset.univ.map falseTok
/-- and the barriers' second one. -/
def trueToks : Finset (GSem nD τ sig × ℕ × Bool) := Finset.univ.map trueTok

theorem toks_apart : Disjoint falseToks trueToks := by
  rw [Finset.disjoint_left]
  intro x h h'
  obtain ⟨_, _, e⟩ := Finset.mem_map.1 h
  obtain ⟨_, _, e'⟩ := Finset.mem_map.1 h'
  have := congrArg (fun x : GSem nD τ sig × ℕ × Bool => x.2.2) (e.trans e'.symm)
  exact Bool.false_ne_true this

def ringToks : Finset (GSem nD τ sig × ℕ × Bool) := falseToks ∪ trueToks

def u₀ : UU :=
  (initOf (Pipeline.cells cfgs cellOf_inj) (Pipeline.launchToks cfgs cellOf_inj), (initOf ringCells ringToks, (1 : Counters)))

variable (m : (ℓ : Loc nD τ sig) → Buf (Elt F) ℓ)

/-- The tokens of the duties at a device's own cells. -/
def ownToks (c : Dev nD) : sProp 𝕄 :=
  iprop((bigSep Finset.univ fun k : Fin 7 => dutyTok ER (kcell (c, k)) 0 false) ∗ dutyTok ER (barCell c) 0 true)
/-- A device's positions at its cells, all at their first round. -/
def spots (c : Dev nD) : sProp 𝕄 :=
  bigSep Finset.univ fun k : Fin 7 => iprop(atPos ER (kcell (c, k)) 0 ∅ 0 ∗ reached ER (kcell (c, k)) 0)

/-- What a device is dealt at launch. -/
def dealt (c : Dev nD) : sProp 𝕄 :=
  iprop((bigSep Finset.univ fun k : Fin 7 => roundState ER (ringRd (msgs m)) (kcell (c, k)) 0) ∗ spots c ∗ ownToks c)

theorem deal : BI.own (ER (initOf ringCells ringToks)) ⊢ (|==> bigSep Finset.univ (dealt m) : sProp 𝕄) := by
  have hC (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks ownToks
    rw [bigSep_union toks_apart]
    unfold falseToks trueToks
    rw [bigSep_map, bigSep_map, bigSep_univ_prod, bigSep_sep']; rfl
  iintro HX
  imod (Rounds.fund ER (ringRd (msgs m)) ringCells ringToks) $$ HX with ⟨Hst, Hr, Hat, Htok⟩
  imodintro
  ihave Hst := (Entails.of_eq (hC fun g => roundState ER (ringRd (msgs m)) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt spots; simp only [bigSep_sep']
  isplitl [Hst]; · iexact Hst
  isplitl [Hat Hr]
  · isplitl [Hat] <;> iassumption
  iexact Htok

/-! ## The cells opened -/

variable (c : Dev nD)

theorem fin7_sep (P : Fin 7 → sProp 𝕄) : bigSep Finset.univ P = iprop(P 0 ∗ P 1 ∗ P 2 ∗ P 3 ∗ P 4 ∗ P 5 ∗ P 6) := by
  rw [bigSep_univ_eq_bigSepL [0, 1, 2, 3, 4, 5, 6] (by decide) (by decide)]
  simp only [bigSepL_cons_cons, bigSepL_singleton]
  rfl

/-- The semaphores at launch, by use. -/
theorem sems_split :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ kvSems c ∗ spare c) : sProp 𝕄) := by
  rw [unscopedSems_eq, fin7_sep]
  iintro ⟨Hos, HB⟩
  ihave Hos := (ownSems_split c) $$ Hos
  unfold sendSems recvSems spare
  icases Hos with ⟨Hkv, ⟨S0, S1, S2, S3⟩, R0, R1, R2, R3⟩
  isplitl [HB S0 S1 S2 R1 R2 R3]
  · isplitl [HB]; · iexact HB
    isplitl [S0]; · iexact S0
    isplitl [S1]; · iexact S1
    isplitl [S2]; · iexact S2
    isplitl [R1]; · iexact R1
    isplitl [R2]; · iexact R2
    iexact R3
  isplitl [Hkv]; · iexact Hkv
  isplitl [S3] <;> iassumption

theorem cells_open :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 7 => iprop(∃ κ : ℕ, cellInv ER (ringRd (msgs m)) κ (kcell (c, k))))
          ∗ spots c ∗ ownToks c ∗ kvSems c ∗ spare c) := by
  unfold dealt
  iintro ⟨Hos, Hus, Hst, Hat, Htok⟩
  ihave Hv := (sems_split (F := F) c) $$ [Hos Hus]
  · isplitl [Hos] <;> iassumption
  icases Hv with ⟨Hv, Hkv, Hsp⟩
  imod (show iprop((bigSep Finset.univ fun k : Fin 7 => semVal (kcell (c, k)) 0) ∗ bigSep Finset.univ fun k : Fin 7 => roundState ER (ringRd (msgs m)) (kcell (c, k)) 0)
      ⊢ (|={Set.univ}=> bigSep Finset.univ fun k : Fin 7 => iprop(∃ κ : ℕ, cellInv ER (ringRd (msgs m)) κ (kcell (c, k))) : sProp 𝕄) from by
        rw [← bigSep_sep']
        exact (bigSep_mono fun k _ => (Rounds.body_intro ER (ringRd (msgs m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hkv] <;> iassumption

/-! ## The tokens dealt around -/

/-- The tokens of the duties device `c` pays: an arrival at each neighbour, its own sendings, its landings at its neighbour's. -/
def payToks : sProp 𝕄 :=
  iprop((dutyTok ER (barCell (nxt c)) 0 false ∗ dutyTok ER (kcell (c, 1)) 0 false ∗ dutyTok ER (kcell (c, 2)) 0 false ∗ dutyTok ER (kcell (c, 3)) 0 false
      ∗ dutyTok ER (kcell (nxt c, 4)) 0 false ∗ dutyTok ER (kcell (nxt c, 5)) 0 false ∗ dutyTok ER (kcell (nxt c, 6)) 0 false)
    ∗ dutyTok ER (barCell (prv c)) 0 true)

/-- A family over the devices, read at each device's neighbour. -/
theorem at_nxt (P : Dev nD → sProp 𝕄) : bigSep Finset.univ P = bigSep Finset.univ fun c => P (nxt c) := bigSep_univ_equiv ring P
theorem at_prv (P : Dev nD → sProp 𝕄) : bigSep Finset.univ P = bigSep Finset.univ fun c => P (prv c) := bigSep_univ_equiv ring.symm P

theorem toks_around : (bigSep Finset.univ fun c : Dev nD => (ownToks c : sProp 𝕄)) = bigSep Finset.univ fun c : Dev nD => payToks c := by
  unfold ownToks payToks
  simp only [fin7_sep, bigSep_sep']
  rw [at_nxt (fun c => dutyTok ER (kcell (c, 0)) 0 false), at_nxt (fun c => dutyTok ER (kcell (c, 4)) 0 false), at_nxt (fun c => dutyTok ER (kcell (c, 5)) 0 false),
    at_nxt (fun c => dutyTok ER (kcell (c, 6)) 0 false), at_prv (fun c => dutyTok ER (barCell c) 0 true)]
  rfl

/-- What each device has before its kernel starts, but for its credits. -/
def ready (c : Dev nD) : sProp 𝕄 :=
  iprop((∃ K, records (msgs m) K) ∗ (bigSep Finset.univ fun k : Fin 7 => atPos ER (kcell (c, k)) 0 ∅ 0) ∗ payToks c ∗ kvSems c ∗ spare c)

theorem with_shared {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k : Fin 7 => iprop(∃ κ : ℕ, cellInv ER (ringRd (msgs m)) κ (kcell (c, k))))
          ∗ spots c ∗ ownToks c ∗ kvSems c ∗ spare c) : sProp 𝕄)
      ⊢ bigSep Finset.univ (ready m) := by
  unfold spots
  simp only [bigSep_sep', toks_around]
  rw [← bigSep_univ_prod (fun e : Dev nD × Fin 7 => iprop(∃ κ : ℕ, cellInv ER (ringRd (msgs m)) κ (kcell e))),
    ← bigSep_univ_prod (fun e : Dev nD × Fin 7 => (reached ER (kcell e) 0 : sProp 𝕄))]
  iintro ⟨HI, ⟨Hat, #HR⟩, Htok, Hkv, Hsp⟩
  ihave HK := (BI.bigSep_exists_pi Finset.univ (fun (e : Dev nD × Fin 7) (κ : ℕ) => (cellInv ER (ringRd (msgs m)) κ (kcell e) : sProp 𝕄))) $$ HI
  icases HK with ⟨%K, #HI⟩
  iapply (with_shared (R := records (msgs m) K)
    (Φ := fun c => iprop((bigSep Finset.univ fun k : Fin 7 => atPos ER (kcell (c, k)) 0 ∅ 0) ∗ payToks c ∗ kvSems c ∗ spare c)) fun c => by
      unfold ready
      iintro ⟨#HR, H⟩
      isplitr; · iexists K; iexact HR
      iexact H)
  isplitr
  · unfold records; rw [bigSep_sep']
    isplitl; · iexact HI
    iexact HR
  simp only [bigSep_sep']
  isplitl [Hat]; · iexact Hat
  isplitl [Htok]; · iexact Htok
  isplitl [Hkv] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => cells_open m c).trans (bigSep_fupd _ _)).trans (BI.fupd_mono (regroup m))

/-! ## The credits -/

/-- One debt, at the cell it is at. -/
theorem debt_at (d : Dev nD) (s : SemLoc sig) (n : ℕ) (c : Dev nD) (s' : SemLoc sig) :
    tallyAt ((d : Thread nD τ), s) () n ((c : Thread nD τ), s') () = if d = c ∧ s = s' then n else 0 := by
  rw [tallyAt_apply]
  refine if_congr ⟨fun h => ?_, fun h => ?_⟩ rfl rfl
  · exact ⟨congrArg (fun g : GSem nD τ sig => g.1.1) h.1.symm, congrArg Prod.snd h.1.symm⟩
  · exact ⟨by rw [h.1, h.2], rfl⟩

/-- What device `d` owes a cell of device `c`. -/
theorem owed_at (d c : Dev nD) (s : SemLoc sig) : O₀ d ((c : Thread nD τ), s) () =
    (if nxt d = c ∧ .dma (recvS 3 (by decide)) = s then NR else 0) + (if nxt d = c ∧ .dma (recvS 2 (by decide)) = s then NR else 0)
      + (if nxt d = c ∧ .dma (recvS 1 (by decide)) = s then NR else 0) + (if nxt d = c ∧ .reg barS = s then 1 else 0) + (if prv d = c ∧ .reg barS = s then 1 else 0) := by
  unfold O₀ owe4 owe3 owe2 owe1
  simp only [Pi.add_apply, Finsupp.add_apply, debt_at, Pi.zero_apply, Finsupp.zero_apply, Nat.zero_add]

theorem sum_nxt (n : ℕ) : ∀ c : Dev nD, (∑ d : Dev nD, if nxt d = c then n else 0) = n := by
  intro c
  rw [Finset.sum_congr rfl fun d _ => if_congr (show nxt d = c ↔ d = prv c from ⟨fun h => by rw [← h, prv_nxt], fun h => by rw [h, nxt_prv]⟩) rfl rfl,
    Finset.sum_ite_eq' Finset.univ (prv c) fun _ => n, if_pos (Finset.mem_univ _)]
theorem sum_prv (n : ℕ) : ∀ c : Dev nD, (∑ d : Dev nD, if prv d = c then n else 0) = n := by
  intro c
  rw [Finset.sum_congr rfl fun d _ => if_congr (show prv d = c ↔ d = nxt c from ⟨fun h => by rw [← h, nxt_prv], fun h => by rw [h, prv_nxt]⟩) rfl rfl,
    Finset.sum_ite_eq' Finset.univ (nxt c) fun _ => n, if_pos (Finset.mem_univ _)]

/-- What is owed a cell in all. -/
def due (s : SemLoc sig) : ℕ :=
  (if .dma (recvS 3 (by decide)) = s then NR else 0) + (if .dma (recvS 2 (by decide)) = s then NR else 0)
    + (if .dma (recvS 1 (by decide)) = s then NR else 0) + (if .reg barS = s then 1 else 0) + (if .reg barS = s then 1 else 0)

theorem sum_and (P : Dev nD → Prop) [DecidablePred P] (Q : Prop) [Decidable Q] (n : ℕ) (h : (∑ d : Dev nD, if P d then n else 0) = n) :
    (∑ d : Dev nD, if P d ∧ Q then n else 0) = if Q then n else 0 := by
  by_cases q : Q
  · simp only [q, and_true, if_true]; exact h
  · simp only [q, and_false, if_false, Finset.sum_const_zero]

theorem owed_sum (s : SemLoc sig) : (∑ d : Dev nD, O₀ d ((c : Thread nD τ), s) ()) = due s := by
  simp only [owed_at, Finset.sum_add_distrib]
  unfold due
  rw [sum_and (fun d => nxt d = c) _ _ (sum_nxt _ c), sum_and (fun d => nxt d = c) _ _ (sum_nxt _ c), sum_and (fun d => nxt d = c) _ _ (sum_nxt _ c),
    sum_and (fun d => nxt d = c) _ _ (sum_nxt _ c), sum_and (fun d => prv d = c) _ _ (sum_prv _ c)]

theorem launch_due (s : SemLoc sig) :
    tallyOn ((c : Thread nD τ), s) (launchCredit (Pipeline.owing O₀) 0 ((c : Thread nD τ), s)) = (tallyAt ((c : Thread nD τ), s) () (due s) : CellTallies nD τ sig Unit) := by
  unfold tallyAt; refine congrArg _ (Finsupp.ext fun u => ?_); cases u
  rw [Pipeline.launchCredit_owing, Finsupp.single_eq_same, owed_sum]

theorem due_bar : due (.reg barS) = 2 := by
  unfold due
  rw [if_neg (by decide), if_neg (by decide), if_neg (by decide), if_pos rfl]
theorem due_recv1 : due (.dma (recvS 1 (by decide))) = NR := by
  unfold due
  rw [if_neg (by decide), if_neg (by decide), if_pos rfl, if_neg (by decide)]; omega
theorem due_recv2 : due (.dma (recvS 2 (by decide))) = NR := by
  unfold due
  rw [if_neg (by decide), if_pos rfl, if_neg (by decide), if_neg (by decide)]; omega
theorem due_recv3 : due (.dma (recvS 3 (by decide))) = NR := by
  unfold due
  rw [if_pos rfl, if_neg (by decide), if_neg (by decide), if_neg (by decide)]; omega

theorem creds : (Pipeline.launchCred O₀ c : sProp 𝕄)
    ⊢ iprop(cred (tallyAt (barCell c) () 2) ∗ cred (tallyAt (recvCell c 1 (by decide)) () NR) ∗ cred (tallyAt (recvCell c 2 (by decide)) () NR)
      ∗ cred (tallyAt (recvCell c 3 (by decide)) () NR)) := by
  unfold Pipeline.launchCred
  simp only [launch_due]
  rw [show (tallyAt (barCell c) () 2 : CellTallies nD τ sig Unit) = tallyAt (barCell c) () (due (.reg barS)) from by rw [due_bar],
    show (tallyAt (recvCell c 1 (by decide)) () NR : CellTallies nD τ sig Unit) = tallyAt (recvCell c 1 (by decide)) () (due (.dma (recvS 1 (by decide)))) from by rw [due_recv1],
    show (tallyAt (recvCell c 2 (by decide)) () NR : CellTallies nD τ sig Unit) = tallyAt (recvCell c 2 (by decide)) () (due (.dma (recvS 2 (by decide)))) from by rw [due_recv2],
    show (tallyAt (recvCell c 3 (by decide)) () NR : CellTallies nD τ sig Unit) = tallyAt (recvCell c 3 (by decide)) () (due (.dma (recvS 3 (by decide)))) from by rw [due_recv3]]
  refine (bigSep_subset (Finset.subset_univ ({.reg barS, .dma (recvS 1 (by decide)), .dma (recvS 2 (by decide)), .dma (recvS 3 (by decide))} : Finset (SemLoc sig)))).trans ?_
  rw [bigSep_insert (by decide), bigSep_insert (by decide), bigSep_insert (by decide), bigSep_singleton]
  exact (Entails.of_eq rfl : (_ : sProp 𝕄) ⊢ _)

end Cert.RingAttn

end
-- ==== Proof.Run.lean ====
/-
# The run

The kernels on the four devices, started together: every execution terminates, with every array what the grid loop leaves in it and
every semaphore back at zero.
-/
module

public import proofs.«01_k».proof.Proof.Deal
public import Idealize.ShloMosaic.Lib.Pipeline.CollectiveSegs
public import Idealize.ShloMosaic.Lib.Pipeline.ValueKit.Geometry

@[expose] public section

noncomputable section

namespace Cert.RingAttn

open Cert.KernelIdeal Cert.KernelIdeal.Gen

open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Entry -/

/-- What enters the grid loop with a device. -/
def enter : sProp 𝕄 :=
  iprop((∃ K, records (msgs m) K) ∗ levAts L lv ∗ ringStart c ∗ kvSems c ∗ spare c
    ∗ (bigSep Finset.univ fun s : Fin 4 => sharePair c main_arg3 (kAt m c) s.val) ∗ (bigSep Finset.univ fun s : Fin 4 => sharePair c main_arg4 (vAt m c) s.val))
/-- What stays outside. -/
def aside : sProp 𝕄 := iprop(shareRest c main_arg3 (kAt m c) ∗ shareRest c main_arg4 (vAt m c))

theorem ring_ready :
    iprop((bigSep Finset.univ fun k : Fin 7 => atPos ER (kcell (c, k)) 0 ∅ 0) ∗ payToks c
      ∗ (cred (tallyAt (barCell c) () 2) ∗ cred (tallyAt (recvCell c 1 (by decide)) () NR) ∗ cred (tallyAt (recvCell c 2 (by decide)) () NR)
        ∗ cred (tallyAt (recvCell c 3 (by decide)) () NR))) ⊢ (ringStart c : sProp 𝕄) := by
  rw [fin7_sep]
  unfold payToks ringStart arriveStart hopStart
  iintro ⟨⟨P0, P1, P2, P3, P4, P5, P6⟩, ⟨⟨T0, T1, T2, T3, T4, T5, T6⟩, TB⟩, CB, C1, C2, C3⟩
  isplitl [TB T0 CB P0]
  · isplitl [TB]; · iexact TB
    isplitl [T0]; · iexact T0
    isplitl [CB]; · iexact CB
    iexact P0
  isplitl [P1 P4 T1 T4 C1]
  · isplitl [P1]; · iexact P1
    isplitl [P4]; · iexact P4
    isplitl [T1]; · iexact T1
    isplitl [T4]; · iexact T4
    iexact C1
  isplitl [P2 P5 T2 T5 C2]
  · isplitl [P2]; · iexact P2
    isplitl [P5]; · iexact P5
    isplitl [T2]; · iexact T2
    isplitl [T5]; · iexact T5
    iexact C2
  isplitl [P3]; · iexact P3
  isplitl [P6]; · iexact P6
  isplitl [T3]; · iexact T3
  isplitl [T6]; · iexact T6
  iexact C3

theorem enter_intro :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(enter m c ∗ aside m c) := by
  rw [Pipeline.unscopedRestP_none, unscopedRest0_eq]
  show iprop((pts c main_arg3 (kAt m c) ∗ pts c main_arg4 (vAt m c)) ∗ levAts L lv ∗ Pipeline.launchCred O₀ c ∗ prngReg c (ρ c) ∗ ready m c) ⊢ _
  unfold ready
  iintro ⟨⟨H3, H4⟩, Hlev, Hcr, -, HK, Hat, Htok, Hkv, Hsp⟩
  ihave Hc := (creds (F := F) c) $$ Hcr
  ihave Hring := (ring_ready (F := F) c) $$ [Hat Htok Hc]
  · isplitl [Hat]; · iexact Hat
    isplitl [Htok] <;> iassumption
  ihave H3 := (cutShares c main_arg3 (kAt m c)) $$ H3
  ihave H4 := (cutShares c main_arg4 (vAt m c)) $$ H4
  icases H3 with ⟨R3, L3⟩
  icases H4 with ⟨R4, L4⟩
  imodintro
  unfold enter aside
  isplitr [R3 R4]
  · isplitl [HK]; · iexact HK
    isplitl [Hlev]; · iexact Hlev
    isplitl [Hring]; · iexact Hring
    isplitl [Hkv]; · iexact Hkv
    isplitl [Hsp]; · iexact Hsp
    isplitl [L3] <;> iassumption
  · isplitl [R3] <;> iassumption

theorem enter_phi :
    iprop(enter m c ∗ Pipeline.prefHeld Pipeline.Prefetch.none c (fun _ => fullShare.right) (fun k => k.elim0) ∗ Pipeline.scopedRest cfg0.spec c)
      ⊢ (dats m 0 c).Φ 0 := by
  rw [phi_run m c 0 (by decide), scopedRest0_eq]
  unfold enter phiRun
  rw [show localAt c (kAt m c) (vAt m c) (xAt m c) (wqAt m c) (0 : Fin (cfg0.N + 1)).val = coldLocal c (kAt m c) (vAt m c) from if_pos rfl]
  unfold coldLocal accAny
  iintro ⟨⟨HK, Hlev, Hring, Hkv, Hsp, L3, L4⟩, -, S0, S1, S2, S3, ⟨%f4, S4⟩, ⟨%f5, S5⟩, S7⟩
  ihave HF := (allFree_in c (kAt m c) (vAt m c) f4 f5) $$ [Hkv S4 S5 L3 L4]
  · isplitl [Hkv]; · iexact Hkv
    isplitl [S4]; · iexact S4
    isplitl [S5]; · iexact S5
    isplitl [L3] <;> iassumption
  unfold allFree
  icases HF with ⟨F0, F1, F2, F3⟩
  isplitl [F0 F1 F2 F3 S0 S1 S2 S3]
  · isplitl [F0]; · iexact F0
    isplitl [F1]; · iexact F1
    isplitl [F2]; · iexact F2
    isplitl [F3]; · iexact F3
    isplitl [S0]; · iexact S0
    isplitl [S1]; · iexact S1
    isplitl [S2]; · iexact S2
    iexact S3
  isplitl [HK]; · iexact HK
  isplitl [Hlev]; · iexact Hlev
  isplitl [Hring]; · iexact Hring
  isplitl [S7]; · iexact S7
  iexact Hsp

/-! ## Exit -/

theorem phi_exit :
    (dats m 0 c).Φ (Fin.last cfg0.N) ⊢ iprop(unscopedSems0 c ∗ Pipeline.ownSems0 osem c ∗ Pipeline.scopedRest cfg0.spec c) := by
  rw [phi_end m c (Fin.last cfg0.N) (by rw [Fin.val_last]; decide), scopedRest0_eq, unscopedSems_eq]
  refine BIBase.Entails.trans ?_ (sep_mono_right (sep_mono_left (ownSems_join c)))
  show _ ⊢ (iprop(_ ∗ _) : sProp 𝕄)
  unfold phiEnd accAny ringEnd hopDone spare sendSems recvSems
  iintro ⟨HF, ⟨S0, S1, S2, S3⟩, ⟨HB, ⟨Z0, Y1⟩, ⟨Z1, Y2⟩, Z2, Y3⟩, S7, Z3, Y0⟩
  ihave HF := (show iprop(freeAt c (kAt m c) (vAt m c) 0 ∗ freeAt c (kAt m c) (vAt m c) 1 ∗ freeAt c (kAt m c) (vAt m c) 2 ∗ freeAt c (kAt m c) (vAt m c) 3) ⊢ _
    from allFree_out c (kAt m c) (vAt m c)) $$ HF
  icases HF with ⟨Hkv, S4, S5⟩
  isplitl [HB]; · iexact HB
  isplitl [Hkv Z0 Z1 Z2 Z3 Y0 Y1 Y2 Y3]
  · isplitl [Hkv]; · iexact Hkv
    isplitl [Z0 Z1 Z2 Z3]
    · isplitl [Z0]; · iexact Z0
      isplitl [Z1]; · iexact Z1
      isplitl [Z2] <;> iassumption
    isplitl [Y0]; · iexact Y0
    isplitl [Y1]; · iexact Y1
    isplitl [Y2] <;> iassumption
  isplitl [S0]; · iexact S0
  isplitl [S1]; · iexact S1
  isplitl [S2]; · iexact S2
  isplitl [S3]; · iexact S3
  isplitl [S4]; · iexact S4
  isplitl [S5] <;> iassumption

/-! ## The launch -/

theorem share_eq (w : Fin cfg0.W) : (dats m 0 c).share w = fullShare := by unfold Dat.share; split <;> rfl

theorem above_owed (t : Fin (cfg0.N + 1)) : Above 0 ((dats m 0 c).owed t) := by
  by_cases h : t.val < 32
  · rw [owed_run m c t h]; exact above5 c
  · rw [owed_end m c t h]; exact Above.zero 0

theorem waits : (levAts L lv : sProp 𝕄) ⊢ Pipeline.cellsWaits cfgs (dats m) () 0 c :=
  Pipeline.cellsWaits_intro cfgs (dats m) () 0 c fun w s t =>
    mayWait (above_owed m c t) c _ (by fin_cases w <;> fin_cases s <;> decide)

theorem owed_first : (dats m 0 c).owed 0 = O₀ c := owed_run m c 0 (by decide)
theorem owed_last : (dats m 0 c).owed (Fin.last cfg0.N) = 0 := owed_end m c (Fin.last cfg0.N) (by rw [Fin.val_last]; decide)

/-- What is read of a device's memory at the end, beside the windows' arrays. -/
def keeps (s : MemSt nD τ sig (Elt F)) : Prop :=
  (∀ sm : SemLoc sig, sm.isScoped .tc = false → s.sem ((c.tc : Thread nD τ), sm) = 0)
    ∧ s.mem ((c : Thread nD τ).loc main_arg3) = kAt m c ∧ s.mem ((c : Thread nD τ).loc main_arg4) = vAt m c

theorem read_rest (b : Ref sig .tc) (A : b.ty.Contents (Elt F)) (s' : Phys nD τ sig (Elt F)) :
    iprop(shareRest c b A ∗ SI s') ⊢ (iprop(⌜s'.mem.mem ((c : Thread nD τ).loc b) = A⌝ ∗ SI s') : sProp 𝕄) := by
  have h := pointsTo_read_all (Ix := Unit) (Name := ℕ) (U := UU) (Lvl := ℕ) ({()} : Finset Unit) (fun _ => (c : Thread nD τ).loc b) (fun _ => A) s' (Transfers.shareDrop fullShare 8)
  rw [bigSep_singleton] at h
  unfold shareRest
  iintro ⟨H, HSI⟩
  ihave H' := h $$ [H HSI]
  · isplitl [H] <;> iassumption
  icases H' with ⟨%e, HSI⟩
  isplitr; · ipureintro; exact e () (Finset.mem_singleton_self _)
  iexact HSI

theorem read_end (s' : Phys nD τ sig (Elt F)) :
    iprop(unscopedSems0 c ∗ aside m c ∗ SI s') ⊢ |={Set.univ}=> (iprop(⌜keeps m c s'.mem⌝ ∗ SI s') : sProp 𝕄) := by
  unfold aside
  iintro ⟨Hu, ⟨H3, H4⟩, HSI⟩
  ihave H := (read_rest c main_arg3 (kAt m c) s') $$ [H3 HSI]
  · isplitl [H3] <;> iassumption
  icases H with ⟨%e3, HSI⟩
  ihave H := (read_rest c main_arg4 (vAt m c) s') $$ [H4 HSI]
  · isplitl [H4] <;> iassumption
  icases H with ⟨%e4, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, e3, e4⟩
  iexact HSI

abbrev EQ : Emb (UB × Counters) (MM F) := embR
theorem ER_eq : (ER : Emb UB (MM F)) = (Emb.inl : Emb UB (UB × Counters)).trans EQ := rfl

/-- The ring's part of the launch element. -/
theorem own_split (u : UB) : (BI.own (EQ (F := F) (u, (1 : Counters))) : sProp (MM F)) ⊢ BI.own (ER u) := by
  rw [ER_eq]
  exact (own_pair_emb EQ u (1 : Counters)).trans sep_elim_left

theorem fund : (ownU u₀ : sProp 𝕄)
    ⊢ |={Set.univ}=> iprop(BI.own (EP (initOf (Pipeline.cells cfgs cellOf_inj) (Pipeline.launchToks cfgs cellOf_inj))) ∗ bigSep Finset.univ (dealt m)) := by
  unfold u₀
  iintro Hu
  ihave H := (ownU_pair _ _) $$ Hu
  icases H with ⟨HP, HX⟩
  ihave HX := (own_split (initOf ringCells ringToks)) $$ HX
  imod (deal m) $$ HX with HG
  imodintro
  isplitl [HP] <;> iassumption

/-- After the run: each window's array as the loop leaves it, the sharded arguments unchanged, -/
def afterRun (r : PUnit × MemSt nD τ sig (Elt F)) : Prop :=
  ∀ c : Dev nD, (∀ w : Fin cfg0.W, r.2.mem ((cfg0.win w).arr.view.loc (c : Thread nD τ)) = (dats m 0 c).arrAt w cfg0.N) ∧ keeps m c r.2

set_option maxRecDepth 8000 in
/-- and every semaphore at zero. -/
theorem run_main : θ_run defs (onTc (τ := τ) (main (F := F))) ⟨m, fun _ => 0, ρ⟩ (fun r => afterRun m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := bodyObligation m) (hne := block_pos0) (harr := arr_whole0) (hstage := stage_whole0) (hshare := share_eq m)
    (hdistinct := winFacts0.arr_inj)
    (O₀ := O₀) (howed₀ := owed_first m) (howedN := owed_last m)
    (L := L) (lv := lv) (hL := L_of_ne) (hwaits := waits m)
    (G := dealt m) (G' := ready m) (u₀ := u₀) (hu₀ := fund m) (hglob := glob m)
    (hA := fun _ _ => rfl) (hpf := fun _ k => k.elim0)
    (X := enter m) (Y := fun c => unscopedSems0 c) (Z := aside m)
    (hX := enter_intro m ρ) (hin := enter_phi m) (hout := phi_exit m)
    (QY := keeps m) (hY := read_end m)
    (hQ := fun _ h hs => ⟨fun c => ⟨(h c).1, (h c).2.2⟩, sem_eq_zero hs fun c => (h c).2.2.1⟩)

end Cert.RingAttn

end
-- ==== Proof.Finals.lean ====
/-
# What a run leaves in each device's buffers

From the state after a run: the five arguments as they were, and the result what the last point left in it.
-/
module

public import proofs.«01_k».proof.Proof.Run

@[expose] public section

noncomputable section

namespace Cert.RingAttn

open Cert.KernelIdeal Cert.KernelIdeal.Gen
open Idealize.ShloMosaic Idealize.ShloMosaic.Pipeline Idealize.SL.Sem

variable {F : FTy → Type} [FloatOps F]

variable (m : (ℓ : Loc nD τ sig) → Buf (Elt F) ℓ) (c : Dev nD)

/-- The last point. -/
def lastPt : Fin cfg0.N := ⟨31, by decide +kernel⟩

/-- The result's one write-back covers it. -/
theorem out_whole : (cfg0.win 3).WholeAt lastPt := by decide +kernel

/-- The result at the end: what the last point left. -/
theorem out_end : (dats m 0 c).arrAt 3 cfg0.N = outAt m c :=
  (dats m 0 c).arrAt_eq_of_after_last 3 lastPt out_whole (outAt m c) (fun j => by
    rfl)

/-- The five arguments of device `c` read in `s` as in `m`. -/
def argsKept (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

variable {m}

theorem args_end {r} (h : afterRun m r) : argsKept m c r.2 :=
  ⟨((h c).1 0).trans ((dats m 0 c).arrAt_in 0 rfl _), ((h c).1 1).trans ((dats m 0 c).arrAt_in 1 rfl _),
    ((h c).1 2).trans ((dats m 0 c).arrAt_in 2 rfl _), (h c).2.2.1, (h c).2.2.2⟩

theorem result_end {r} (h : afterRun m r) :
    r.2.mem ((c.tc : Thread nD τ).loc main_v1) = outAt m c :=
  ((h c).1 3).trans (out_end m c)

end Cert.RingAttn

end
-- ==== Proof.Frames.lean ====
/-
# The frames

Every program runs to its end, its arguments unchanged and its semaphores back at zero. The kernel's two readings share one run.
-/
module

public import proofs.«01_k».proof.Defs
public import proofs.«01_k».proof.Proof.Finals
public import proofs.«01_k».proof.Proof.Gen.Kernel
public import proofs.«01_k».proof.Proof.Gen.ReferenceIdeal.Run
public import Idealize.ShloMosaic.Lib.Quiescent

@[expose] public section

noncomputable section

namespace Cert.RingAttn

open Idealize.ShloMosaic Idealize.SL.Sem

/-- The kernel at any values. -/
theorem run_frame {F : FTy → Type} [FloatOps F] (m : (ℓ : Loc KernelIdeal.nD KernelIdeal.τ KernelIdeal.sig) → Buf (Elt F) ℓ)
    (ρ : Dev KernelIdeal.nD → PrngReg) :
    θ_run KernelIdeal.defs (onTc (τ := KernelIdeal.τ) (KernelIdeal.main (F := F))) ⟨m, fun _ => 0, ρ⟩
      (fun r => (∀ c, argsKept m c r.2) ∧ r.2.sem = fun _ => 0) :=
  (θ_run KernelIdeal.defs _ _).mono (fun _ h => ⟨fun c => args_end c h.1, h.2⟩) (run_main m ρ)

/-- The two readings of the kernel have one text; of their body tables this is seen label by label. -/
theorem bodies_eq {F : FTy → Type} [FloatOps F] : Kernel.defs₀ (F := F) = KernelIdeal.defs₀ (F := F) := by
  unfold Kernel.defs₀ KernelIdeal.defs₀
  refine congrArg Defs.onTc (funext fun ℓ => funext fun x => ?_)
  match ℓ, x with
  | ⟨0, _⟩, (t, s) => rfl
theorem defs_eq {F : FTy → Type} [FloatOps F] : Kernel.defs (F := F) = KernelIdeal.defs (F := F) :=
  congrArg (Pipeline.defs KernelIdeal.pcfgs) bodies_eq

/-- The kernel over bits. -/
theorem frame_bits : Cert.quiescent_Kernel := fun m ρ _ => by
  rw [defs_eq]
  exact run_frame (F := Bits) m ρ

/-- The kernel over extended reals. -/
theorem frame_reals : Cert.quiescent_KernelIdeal := fun m ρ _ => run_frame (F := Ideal) m ρ

/-- The reference over extended reals; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingAttn

end
-- ==== Proof.Reads.lean ====
/-
# The buffers at an index

What a load of half of an accumulator reads, what a store of half of one leaves, and what a chunk of a device's keys or
values is, each at an index given by its coordinates. Everything is over any float values.
-/
module

public import proofs.«01_k».proof.Proof.State
public import Idealize.ShloMosaic.Lib.ValueLayout

@[expose] public section

noncomputable section

namespace Cert.RingAttn

open Cert.KernelIdeal Cert.KernelIdeal.Gen

open Idealize.ShloMosaic Idealize.ShloMosaic.TcCoe Idealize.ShloMosaic.ValueIdx

variable {F : FTy → Type} [FloatOps F]

/-! ## Loads and stores through a rectangle -/

/-- The place in the array of an index of a unit-stride rectangle. -/
theorem corner {s : Shape} {off sz : Fin s.rank → ℕ} {hb : ∀ a, off a + sz a ≤ s.size a} (j : (Rect.unit off sz hb).shape.Idx) (k : s.Idx)
    (h : ∀ a, (k a).val = off a + (j a).val) : (Rect.unit off sz hb).emb j = k :=
  funext fun a => Fin.ext (by
    rw [Rect.emb_apply]
    show off a + 1 * (j a).val = (k a).val
    rw [h, Nat.one_mul])

theorem get_at (b : Ref sig .tc) (R : Rect b.ty.shape) (f : b.ty.Contents (Elt F)) (j : R.shape.Idx) :
    (View.whole b).readAt (Elt F) R.toLoadRect f j = f (R.emb j) := rfl

theorem put_hit (b : Ref sig .tc) (R : Rect b.ty.shape) (f : b.ty.Contents (Elt F)) (p : R.shape.Idx → Elt F b.ty.elt) (j : R.shape.Idx) :
    ((View.whole b).slice R).write (Elt F) f p Finset.univ (R.emb j) = p j :=
  View.write_emb_of_mem (v := (View.whole b).slice R) f p (Finset.mem_univ j)

theorem put_miss (b : Ref sig .tc) (R : Rect b.ty.shape) (f : b.ty.Contents (Elt F)) (p : R.shape.Idx → Elt F b.ty.elt) (i : b.ty.Idx)
    (h : i ∉ R.set) : ((View.whole b).slice R).write (Elt F) f p Finset.univ i = f i :=
  View.write_of_not_mem (v := (View.whole b).slice R) f p Finset.univ (by
    show i ∉ ((View.whole b).slice R).set
    rwa [View.set_slice_whole])

/-! ## The halves of the accumulators -/

section Halves

variable (r : Fin 512) (d : Fin 128)

theorem at_o0 : oR0.emb (ix3 0 r d) = (ix3 0 r d : S2x512x128.Idx) :=
  corner _ _ fun a => match a with | ⟨0, _⟩ => rfl | ⟨1, _⟩ => (Nat.zero_add _).symm | ⟨2, _⟩ => (Nat.zero_add _).symm
theorem at_o1 : oR1.emb (ix3 0 r d) = (ix3 1 r d : S2x512x128.Idx) :=
  corner _ _ fun a => match a with | ⟨0, _⟩ => rfl | ⟨1, _⟩ => (Nat.zero_add _).symm | ⟨2, _⟩ => (Nat.zero_add _).symm
theorem at_m0 : mR0.emb (ix3 0 r 0) = (ix3 0 r 0 : S2x512x1.Idx) :=
  corner _ _ fun a => match a with | ⟨0, _⟩ => rfl | ⟨1, _⟩ => (Nat.zero_add _).symm | ⟨2, _⟩ => rfl
theorem at_m1 : mR1.emb (ix3 0 r 0) = (ix3 1 r 0 : S2x512x1.Idx) :=
  corner _ _ fun a => match a with | ⟨0, _⟩ => rfl | ⟨1, _⟩ => (Nat.zero_add _).symm | ⟨2, _⟩ => rfl

theorem out_o0 : (ix3 1 r d : S2x512x128.Idx) ∉ oR0.set := fun h => by
  rw [Rect.mem_set_unit] at h; exact absurd (h 0).2 (by show ¬ (1 < 0 + 1); omega)
theorem out_o1 : (ix3 0 r d : S2x512x128.Idx) ∉ oR1.set := fun h => by
  rw [Rect.mem_set_unit] at h; exact absurd (h 0).1 (by show ¬ (1 ≤ 0); omega)
theorem out_m0 : (ix3 1 r 0 : S2x512x1.Idx) ∉ mR0.set := fun h => by
  rw [Rect.mem_set_unit] at h; exact absurd (h 0).2 (by show ¬ (1 < 0 + 1); omega)
theorem out_m1 : (ix3 0 r 0 : S2x512x1.Idx) ∉ mR1.set := fun h => by
  rw [Rect.mem_set_unit] at h; exact absurd (h 0).1 (by show ¬ (1 ≤ 0); omega)

theorem rdO0_at (f : Vec F S2x512x128 .f32) : rdO0 f (ix3 0 r d) = f (ix3 0 r d) := (get_at cc0_scratch1 oR0 f _).trans (congrArg f (at_o0 r d))
theorem rdO1_at (f : Vec F S2x512x128 .f32) : rdO1 f (ix3 0 r d) = f (ix3 1 r d) := (get_at cc0_scratch1 oR1 f _).trans (congrArg f (at_o1 r d))
theorem rdQ0_at (f : Vec F S2x512x128 .f32) : rdQ0 f (ix3 0 r d) = f (ix3 0 r d) := (get_at cc0_scratch0 oR0 f _).trans (congrArg f (at_o0 r d))
theorem rdQ1_at (f : Vec F S2x512x128 .f32) : rdQ1 f (ix3 0 r d) = f (ix3 1 r d) := (get_at cc0_scratch0 oR1 f _).trans (congrArg f (at_o1 r d))
theorem rdM0_at (f : Vec F S2x512x1 .f32) : rdM0 f (ix3 0 r 0) = f (ix3 0 r 0) := (get_at cc0_scratch2 mR0 f _).trans (congrArg f (at_m0 r))
theorem rdM1_at (f : Vec F S2x512x1 .f32) : rdM1 f (ix3 0 r 0) = f (ix3 1 r 0) := (get_at cc0_scratch2 mR1 f _).trans (congrArg f (at_m1 r))
theorem rdL0_at (f : Vec F S2x512x1 .f32) : rdL0 f (ix3 0 r 0) = f (ix3 0 r 0) := (get_at cc0_scratch3 mR0 f _).trans (congrArg f (at_m0 r))
theorem rdL1_at (f : Vec F S2x512x1 .f32) : rdL1 f (ix3 0 r 0) = f (ix3 1 r 0) := (get_at cc0_scratch3 mR1 f _).trans (congrArg f (at_m1 r))

variable (fo : Vec F S2x512x128 .f32) (po : Vec F S1x512x128 .f32) (fm : Vec F S2x512x1 .f32) (pm : Vec F S1x512x1 .f32)

theorem wrO0_hit : wrO0 fo po (ix3 0 r d) = po (ix3 0 r d) := (congrArg (wrO0 fo po) (at_o0 r d).symm).trans (put_hit cc0_scratch1 oR0 fo po _)
theorem wrO1_hit : wrO1 fo po (ix3 1 r d) = po (ix3 0 r d) := (congrArg (wrO1 fo po) (at_o1 r d).symm).trans (put_hit cc0_scratch1 oR1 fo po _)
theorem wrM0_hit : wrM0 fm pm (ix3 0 r 0) = pm (ix3 0 r 0) := (congrArg (wrM0 fm pm) (at_m0 r).symm).trans (put_hit cc0_scratch2 mR0 fm pm _)
theorem wrM1_hit : wrM1 fm pm (ix3 1 r 0) = pm (ix3 0 r 0) := (congrArg (wrM1 fm pm) (at_m1 r).symm).trans (put_hit cc0_scratch2 mR1 fm pm _)
theorem wrL0_hit : wrL0 fm pm (ix3 0 r 0) = pm (ix3 0 r 0) := (congrArg (wrL0 fm pm) (at_m0 r).symm).trans (put_hit cc0_scratch3 mR0 fm pm _)
theorem wrL1_hit : wrL1 fm pm (ix3 1 r 0) = pm (ix3 0 r 0) := (congrArg (wrL1 fm pm) (at_m1 r).symm).trans (put_hit cc0_scratch3 mR1 fm pm _)
theorem wrO0_miss : wrO0 fo po (ix3 1 r d) = fo (ix3 1 r d) := put_miss cc0_scratch1 oR0 fo po _ (out_o0 r d)
theorem wrO1_miss : wrO1 fo po (ix3 0 r d) = fo (ix3 0 r d) := put_miss cc0_scratch1 oR1 fo po _ (out_o1 r d)
theorem wrM0_miss : wrM0 fm pm (ix3 1 r 0) = fm (ix3 1 r 0) := put_miss cc0_scratch2 mR0 fm pm _ (out_m0 r)
theorem wrM1_miss : wrM1 fm pm (ix3 0 r 0) = fm (ix3 0 r 0) := put_miss cc0_scratch2 mR1 fm pm _ (out_m1 r)
theorem wrL0_miss : wrL0 fm pm (ix3 1 r 0) = fm (ix3 1 r 0) := put_miss cc0_scratch3 mR0 fm pm _ (out_m0 r)
theorem wrL1_miss : wrL1 fm pm (ix3 0 r 0) = fm (ix3 0 r 0) := put_miss cc0_scratch3 mR1 fm pm _ (out_m1 r)

end Halves

/-! ## A chunk, a block of `Wq`, a block of `Wo` -/

/-- Key `j` of chunk `t`. -/
theorem chunkV_at (A : Vec F S1x32768x2x128 .f32) (t g : ℕ) (hg : g < 2) (j : Fin 1024) (k : Fin 128) :
    chunkV A t g hg (ix4 0 0 j k) = A (ix4 0 ⟨1024 * (t % 32) + j.val, by omega⟩ ⟨g, hg⟩ k) := by
  unfold chunkV
  refine (shapeCast_apply _ _ _ (ix2 j k) ?_).trans ?_
  · rw [Shape.rowMajor_val_four, Shape.rowMajor_val_two]
    show j.val * 128 + k.val = ((0 * 1 + 0) * 1024 + j.val) * 128 + k.val
    omega
  refine (shapeCast_apply _ _ _ (ix4 0 j 0 k) ?_).trans ?_
  · rw [Shape.rowMajor_val_four, Shape.rowMajor_val_two]
    show ((0 * 1024 + j.val) * 1 + 0) * 128 + k.val = j.val * 128 + k.val
    omega
  refine (get_at main_arg3 (aR t g hg) A _).trans (congrArg A (corner _ _ fun a => ?_))
  match a with
  | ⟨0, _⟩ => rfl
  | ⟨1, _⟩ => rfl
  | ⟨2, _⟩ => rfl
  | ⟨3, _⟩ => exact (Nat.zero_add _).symm

theorem wqCol_at (wq : Vec F S1024x1024 .f32) (h : ℕ) (hb) (y : Fin 1024) (k : Fin 128) (hh : h + k.val < 1024) :
    wqCol wq h hb (ix2 y k) = wq (ix2 y ⟨h + k.val, hh⟩) :=
  (get_at cc0_stg1_0 (Rect.unit (s := S1024x1024) ![0, h] S1024x128.size hb) wq _).trans (congrArg wq (corner _ _ fun a => match a with | ⟨0, _⟩ => (Nat.zero_add _).symm | ⟨1, _⟩ => rfl))

theorem woRow_at (wo : Vec F S1024x1024 .f32) (h : ℕ) (hb) (k : Fin 128) (j : Fin 1024) (hh : h + k.val < 1024) :
    woRow wo h hb (ix2 k j) = wo (ix2 ⟨h + k.val, hh⟩ j) :=
  (get_at cc0_stg2_0 (Rect.unit (s := S1024x1024) ![h, 0] S128x1024.size hb) wo _).trans (congrArg wo (corner _ _ fun a => match a with | ⟨0, _⟩ => rfl | ⟨1, _⟩ => (Nat.zero_add _).symm))

/-! ## One store into the query buffer -/

theorem qPut_hit (f : Vec F S2x512x128 .f32) (g h : ℕ) (hb) (p : Vec F S1x128x128 .f32) (i : Fin 128) (k : Fin 128) (hg : g < 2) (hh : h + i.val < 512) :
    qPut f g h hb p (ix3 ⟨g, hg⟩ ⟨h + i.val, hh⟩ k) = p (ix3 0 i k) := by
  have e : (qR g h hb).emb (ix3 0 i k) = (ix3 ⟨g, hg⟩ ⟨h + i.val, hh⟩ k : S2x512x128.Idx) :=
    corner _ _ fun a => match a with | ⟨0, _⟩ => rfl | ⟨1, _⟩ => rfl | ⟨2, _⟩ => (Nat.zero_add _).symm
  exact (congrArg (qPut f g h hb p) e.symm).trans (put_hit cc0_scratch0 (qR g h hb) f p _)

theorem qPut_miss (f : Vec F S2x512x128 .f32) (g h : ℕ) (hb) (p : Vec F S1x128x128 .f32) (i : S2x512x128.Idx)
    (hi : ¬ ((i 0).val = g ∧ h ≤ (i 1).val ∧ (i 1).val < h + 128)) : qPut f g h hb p i = f i :=
  put_miss cc0_scratch0 (qR g h hb) f p i (by
    have := (mem_qR_set g h hb i).not.2 hi
    rwa [show (qM.access (qR g h hb) : View sig .tc _ _ _).set = (qR g h hb).set from View.set_slice_whole _ _] at this)

end Cert.RingAttn

end
-- ==== Proof.Ops.lean ====
/-
# The body's arithmetic at an index

What each vector the body computes is at an index, over the extended reals: products are sums over the contracted
axis, a row's maximum is a supremum, and the rest is pointwise.
-/
module

public import proofs.«01_k».proof.Proof.Reads
public import Idealize.ShloMosaic.Lib.MatmulPlain
public import Idealize.ShloMosaic.Lib.ValueIdx
public import Idealize.ShloMosaic.Lib.ValueLayoutCasts
public import Idealize.ShloMosaic.PureOps.Ideal.Laws

@[expose] public section

noncomputable section

namespace Cert.RingAttn

open Cert.KernelIdeal Cert.KernelIdeal.Gen

open Idealize.ShloMosaic Idealize.ShloMosaic.TcCoe Idealize.ShloMosaic.ValueIdx

/-! ## General readings -/

/-- The scale 1/√128, as the program's constant. -/
def scale : EReal := Ideal.ofBits .f32 0x3DB504F3#32

theorem zero_const : (Ideal.ofBits .f32 0x00000000#32 : EReal) = 0 := Ideal.ofBits_zero_f32
theorem bot_const : (Ideal.ofBits .f32 0xFF800000#32 : EReal) = ⊥ := by
  simp [Ideal.ofBits, Ideal.ieee]

theorem scale_real : scale = ((11863283 * (2 ^ 27)⁻¹ : ℝ) : EReal) := by
  simp [scale, Ideal.ofBits, Ideal.ieee]

theorem scale_nonneg : 0 ≤ scale := by
  rw [scale_real]
  exact EReal.coe_nonneg.2 (by positivity)

theorem scale_ne_top : scale ≠ ⊤ := by
  rw [scale_real]
  exact EReal.coe_ne_top _

/-- A column spread over the columns. -/
theorem spread_apply {a b : ℕ} (v : FVec Ideal ⟨2, ![a, 1]⟩ .f32) (h : (⟨2, ![a, 1]⟩ : Shape).Broadcasts ⟨2, ![a, b]⟩) (i : Fin a) (j : Fin b) :
    broadcastTo ⟨2, ![a, b]⟩ v h (ix2 i j) = v (ix2 i 0) :=
  broadcastTo_apply v h _ _ fun ax => match ax with
    | ⟨0, _⟩ => by
      show i.val = if a = 1 then 0 else i.val
      split <;> omega
    | ⟨1, _⟩ => rfl

theorem spread3_apply (v : FVec Ideal S2x512x1 .f32) (g : Fin 2) (r : Fin 512) (d : Fin 128) :
    broadcastTo S2x512x128 v broadcasts_S2x512x1_S2x512x128 (ix3 g r d) = v (ix3 g r 0) :=
  broadcastTo_apply v _ _ _ fun ax => match ax with
    | ⟨0, _⟩ => rfl
    | ⟨1, _⟩ => rfl
    | ⟨2, _⟩ => rfl

/-- The one index of a row's sum over its columns. -/
theorem lift_row (h : S512x1024.Reduces [1] S512) (r : Fin 512) (j : Fin 1024) : h.lift (ix1 r) j = (ix2 r j : S512x1024.Idx) := by
  funext a
  match a with
  | ⟨0, _⟩ => rfl
  | ⟨1, _⟩ => rfl

theorem row_sum (x : FVec Ideal S512x1024 .f32) (r : Fin 512) :
    shapeCast S512x1 (multiReduction .add [1] S512 x 0x00000000#32 reduces_S512x1024_S512 (.inl rfl) rfl) shapeCasts_S512_S512x1 (ix2 r 0)
      = ∑ j : Fin 1024, x (ix2 r j) := by
  refine (shapeCast_a_a1_apply _ _ _ _).trans ((Ideal.multiReduction_add_single _ _ _ _ _ _).trans ?_)
  exact Finset.sum_congr rfl fun j _ => congrArg x (lift_row _ r j)

theorem row_max (x : FVec Ideal S512x1024 .f32) (r : Fin 512) :
    shapeCast S512x1 (multiReduction .maximumf [1] S512 x 0xFF800000#32 reduces_S512x1024_S512 (.inl rfl) rfl) shapeCasts_S512_S512x1 (ix2 r 0)
      = Finset.univ.sup fun j : Fin 1024 => x (ix2 r j) := by
  refine (shapeCast_a_a1_apply _ _ _ _).trans ((Ideal.multiReduction_maximumf_single _ _ _ _ _ _).trans ?_)
  show (Finset.univ : Finset (Fin 1024)).fold max (Ideal.ofBits .f32 0xFF800000#32) _ = _
  rw [bot_const]
  refine Finset.sup_congr rfl fun j _ => ?_
  exact congrArg x (lift_row _ r j)

/-- A product of a matrix by a matrix, onto nothing. -/
theorem times_at {M K N : ℕ} (D : DotDims ⟨2, ![M, K]⟩ ⟨2, ![K, N]⟩ ⟨2, ![M, N]⟩) (hD : D = DotDims.plain M K N)
    (x : FVec Ideal ⟨2, ![M, K]⟩ .f32) (y : FVec Ideal ⟨2, ![K, N]⟩ .f32) (i : Fin M) (j : Fin N) :
    matmul D none x y (constant ⟨2, ![M, N]⟩ .f32 0x00000000#32) (ix2 i j) = ∑ k : Fin K, x (ix2 i k) * y (ix2 k j) := by
  subst hD
  refine (Ideal.matmul_plain_apply none x y _ i j).trans ?_
  show Ideal.ofBits .f32 0x00000000#32 + _ = _
  rw [zero_const, zero_add]

/-- A product of a matrix by a transposed one, onto nothing. -/
theorem times_t_at {M K N : ℕ} (D : DotDims ⟨2, ![M, K]⟩ ⟨2, ![N, K]⟩ ⟨2, ![M, N]⟩) (hD : D = DotDims.transposedRhs M K N)
    (x : FVec Ideal ⟨2, ![M, K]⟩ .f32) (y : FVec Ideal ⟨2, ![N, K]⟩ .f32) (i : Fin M) (j : Fin N) :
    matmul D none x y (constant ⟨2, ![M, N]⟩ .f32 0x00000000#32) (ix2 i j) = ∑ k : Fin K, x (ix2 i k) * y (ix2 j k) := by
  subst hD
  refine (Ideal.matmul_transposedRhs_apply none x y _ i j).trans ?_
  show Ideal.ofBits .f32 0x00000000#32 + _ = _
  rw [zero_const, zero_add]

/-! ## The scaled queries -/

/-- A scaled query before it is stored. -/
theorem qPay_at (x : Vec Ideal S1x128x1024 .f32) (w : Vec Ideal S1024x128 .f32) (i k : Fin 128) :
    k0_pay4 (F := Ideal) x w (ix3 0 i k) = (∑ y : Fin 1024, x (ix3 0 i y) * w (ix2 y k)) * scale := by
  unfold k0_pay4 k0_pay3
  dsimp only
  rw [shapeCast_ab_1ab_apply, shapeCast_self, mulf_apply, times_at dot_S128x1024_S1024x128_S128x128_1_0_0_1_n_n rfl]
  refine congrArg (· * scale) (Finset.sum_congr rfl fun y _ => ?_)
  rw [shapeCast_1ab_ab_apply]

/-! ## One chunk -/

section Chunk

variable (q : Vec Ideal S1x512x128 .f32) (k v : Vec Ideal S1x1x1024x128 .f32) (m l : Vec Ideal S1x512x1 .f32) (o : Vec Ideal S1x512x128 .f32)
  (r : Fin 512) (d : Fin 128)

/-- The score of key `j` of the chunk. -/
def sc (j : Fin 1024) : EReal := ∑ x : Fin 128, q (ix3 0 r x) * k (ix4 0 0 j x)
/-- The new maximum. -/
def mxNew : EReal := max (m (ix3 0 r 0)) (Finset.univ.sup (sc q k r))

theorem cast_chunk (f : Vec Ideal S1x1x1024x128 .f32) (j : Fin 1024) (x : Fin 128) :
    shapeCast S1024x128 f shapeCasts_S1x1x1024x128_S1024x128 (ix2 j x) = f (ix4 0 0 j x) :=
  shapeCast_apply _ _ _ _ (by
    rw [Shape.rowMajor_val_four, Shape.rowMajor_val_two]
    show ((0 * 1 + 0) * 1024 + j.val) * 128 + x.val = j.val * 128 + x.val
    omega)

theorem pay47_at (j : Fin 1024) : k0_pay47 (F := Ideal) q k (ix2 r j) = sc q k r j := by
  refine (times_t_at _ rfl _ _ _ _).trans (Finset.sum_congr rfl fun x _ => ?_)
  rw [shapeCast_1ab_ab_apply, cast_chunk]

theorem pay48_at : k0_pay48 (F := Ideal) q k (ix2 r 0) = Finset.univ.sup (sc q k r) := by
  refine (row_max _ r).trans ?_
  exact Finset.sup_congr rfl fun j _ => pay47_at q k r j

theorem pay49_at : k0_pay49 (F := Ideal) m (ix2 r 0) = m (ix3 0 r 0) := shapeCast_1ab_ab_apply _ _ _ _

theorem pay50_at : k0_pay50 (F := Ideal) (k0_pay48 q k) m (ix2 r 0) = mxNew q k m r := by
  show max (k0_pay49 (F := Ideal) m (ix2 r 0)) (k0_pay48 (F := Ideal) q k (ix2 r 0)) = _
  rw [pay49_at, pay48_at, mxNew]

theorem pay51_at : k0_pay51 (F := Ideal) (k0_pay48 q k) m (ix2 r 0) = Ideal.exp (m (ix3 0 r 0) - mxNew q k m r) := by
  show Ideal.exp (k0_pay49 (F := Ideal) m (ix2 r 0) - k0_pay50 (F := Ideal) (k0_pay48 q k) m (ix2 r 0)) = _
  rw [pay49_at, pay50_at]

theorem pay52_at (j : Fin 1024) : k0_pay52 (F := Ideal) (k0_pay47 q k) (k0_pay48 q k) m (ix2 r j) = Ideal.exp (sc q k r j - mxNew q k m r) := by
  show Ideal.exp (k0_pay47 (F := Ideal) q k (ix2 r j)
    - broadcastTo S512x1024 (k0_pay50 (F := Ideal) (k0_pay48 q k) m) broadcasts_S512x1_S512x1024 (ix2 r j)) = _
  rw [spread_apply, pay47_at, pay50_at]

/-- The maximum a chunk leaves, -/
theorem newM_at : k0_pay55 (F := Ideal) (k0_pay48 q k) m (ix3 0 r 0) = mxNew q k m r :=
  (shapeCast_ab_1ab_apply _ _ _ _ _).trans (pay50_at q k m r)

/-- the sum, -/
theorem newL_at : k0_pay53 (F := Ideal) (k0_pay47 q k) (k0_pay48 q k) m l (ix3 0 r 0)
    = l (ix3 0 r 0) * Ideal.exp (m (ix3 0 r 0) - mxNew q k m r) + ∑ j : Fin 1024, Ideal.exp (sc q k r j - mxNew q k m r) := by
  unfold k0_pay53
  dsimp only
  rw [shapeCast_ab_1ab_apply, addf_apply, mulf_apply, row_sum, shapeCast_1ab_ab_apply, pay51_at]
  exact congrArg₂ (· + ·) rfl (Finset.sum_congr rfl fun j _ => pay52_at q k m r j)

/-- and the output. -/
theorem newO_at : k0_pay54 (F := Ideal) (k0_pay46 v) (k0_pay47 q k) (k0_pay48 q k) m o (ix3 0 r d)
    = o (ix3 0 r d) * Ideal.exp (m (ix3 0 r 0) - mxNew q k m r) + ∑ j : Fin 1024, Ideal.exp (sc q k r j - mxNew q k m r) * v (ix4 0 0 j d) := by
  unfold k0_pay54 k0_pay46
  dsimp only
  rw [shapeCast_ab_1ab_apply, addf_apply, mulf_apply, shapeCast_1ab_ab_apply, spread_apply, pay51_at]
  refine congrArg₂ (· + ·) rfl ?_
  rw [times_at dot_S512x1024_S1024x128_S512x128_1_0_0_1_n_n rfl]
  refine Finset.sum_congr rfl fun j _ => ?_
  rw [pay52_at, cast_chunk]

end Chunk

end Cert.RingAttn

end
-- ==== Proof.Soft.lean ====
/-
# Softmax sums over the extended reals

A weighted sum over a set of keys, its weights the exponentials of the scores less their maximum, can be had piece by piece: a
piece's sums are brought to a larger maximum by one factor, and sums over disjoint sets add up. This holds of all extended reals, as
every factor is a number between 0 and 1.
-/
module

public import Idealize.ShloMosaic.PureOps.Ideal

@[expose] public section

noncomputable section

namespace Cert.RingAttn

open Idealize.ShloMosaic

theorem exp_coe (r : ℝ) : Ideal.exp (r : EReal) = (Real.exp r : EReal) := rfl

theorem exp_nonneg (x : EReal) : 0 ≤ Ideal.exp x := by
  induction x with
  | bot => exact le_refl _
  | top => exact le_top
  | coe r => exact EReal.coe_nonneg.2 (Real.exp_pos r).le

/-- The difference of a score and a bound of it is never positive infinity. -/
theorem sub_ne_top {s M : EReal} (h : s ≤ M) : s - M ≠ ⊤ := by
  induction s with
  | bot => simp
  | top => rw [top_le_iff.1 h]; simp
  | coe r =>
    induction M with
    | bot => simp at h
    | top => simp
    | coe t => rw [← EReal.coe_sub]; exact EReal.coe_ne_top _

theorem exp_ne_top {x : EReal} (h : x ≠ ⊤) : Ideal.exp x ≠ ⊤ := by
  induction x with
  | bot => exact EReal.zero_ne_top
  | top => exact absurd rfl h
  | coe r => exact EReal.coe_ne_top _

/-- A weight brought to a larger maximum. -/
theorem exp_shift {s M M' : EReal} (h : s ≤ M) (h' : M ≤ M') :
    Ideal.exp (s - M) * Ideal.exp (M - M') = Ideal.exp (s - M') := by
  induction M' with
  | bot =>
    rw [le_bot_iff.1 h'] at h ⊢
    rw [le_bot_iff.1 h]
    exact zero_mul _
  | top => rw [EReal.sub_top, EReal.sub_top]; exact mul_zero _
  | coe t =>
    induction M with
    | bot => rw [le_bot_iff.1 h]; exact zero_mul _
    | top => simp at h'
    | coe r =>
      induction s with
      | bot => exact zero_mul _
      | top => simp at h
      | coe q =>
        simp only [← EReal.coe_sub, exp_coe, ← EReal.coe_mul, ← Real.exp_add]
        congr 2; ring

/-- A nonnegative number multiplies a sum term by term. -/
theorem sum_mul_real {ι : Type*} (A : Finset ι) (f : ι → EReal) {a : EReal} (h0 : 0 ≤ a) (ht : a ≠ ⊤) :
    (∑ i ∈ A, f i) * a = ∑ i ∈ A, f i * a := by
  classical
  induction A using Finset.induction_on with
  | empty => simp
  | insert i A hi ih =>
    rw [Finset.sum_insert hi, Finset.sum_insert hi, EReal.right_distrib_of_nonneg_of_ne_top h0 ht, ih]

/-- A set's sums at its own maximum, brought to a larger one. -/
theorem sums_shift (A : Finset ℕ) (s w : ℕ → EReal) {M' : EReal} (h : A.sup s ≤ M') :
    (∑ i ∈ A, Ideal.exp (s i - A.sup s) * w i) * Ideal.exp (A.sup s - M') = ∑ i ∈ A, Ideal.exp (s i - M') * w i := by
  rw [sum_mul_real A _ (exp_nonneg _) (exp_ne_top (sub_ne_top h))]
  refine Finset.sum_congr rfl fun i hi => ?_
  rw [mul_right_comm, exp_shift (Finset.le_sup hi) h]

theorem weights_shift (A : Finset ℕ) (s : ℕ → EReal) {M' : EReal} (h : A.sup s ≤ M') :
    (∑ i ∈ A, Ideal.exp (s i - A.sup s)) * Ideal.exp (A.sup s - M') = ∑ i ∈ A, Ideal.exp (s i - M') := by
  have := sums_shift A s (fun _ => 1) h
  simpa using this

/-- The three numbers kept of the keys in `A`: the weighted sum, the maximum and the sum of the weights. -/
structure Soft (A : Finset ℕ) (s v : ℕ → EReal) (o m l : EReal) : Prop where
  m_eq : m = A.sup s
  l_eq : l = ∑ i ∈ A, Ideal.exp (s i - A.sup s)
  o_eq : o = ∑ i ∈ A, Ideal.exp (s i - A.sup s) * v i

variable {A B : Finset ℕ} {s v : ℕ → EReal} {o m l o' m' l' : EReal}

theorem soft_none : Soft ∅ s v 0 ⊥ 0 := ⟨rfl, rfl, rfl⟩

/-- The keys of `B` added one and all at the new maximum. -/
theorem Soft.step (h : Soft A s v o m l) (d : Disjoint A B) :
    Soft (A ∪ B) s v (o * Ideal.exp (m - max m (B.sup s)) + ∑ i ∈ B, Ideal.exp (s i - max m (B.sup s)) * v i) (max m (B.sup s))
      (l * Ideal.exp (m - max m (B.sup s)) + ∑ i ∈ B, Ideal.exp (s i - max m (B.sup s))) := by
  obtain ⟨rfl, rfl, rfl⟩ := h
  have e : max (A.sup s) (B.sup s) = (A ∪ B).sup s := Finset.sup_union.symm
  have le : A.sup s ≤ (A ∪ B).sup s := Finset.sup_mono Finset.subset_union_left
  rw [e]
  refine ⟨rfl, ?_, ?_⟩
  · rw [weights_shift A s le, Finset.sum_union d]
  · rw [sums_shift A s v le, Finset.sum_union d]

/-- Two disjoint sets' numbers merged. -/
theorem Soft.merge (h : Soft A s v o m l) (h' : Soft B s v o' m' l') (d : Disjoint A B) :
    Soft (A ∪ B) s v (o * Ideal.exp (m - max m m') + o' * Ideal.exp (m' - max m m')) (max m m')
      (l * Ideal.exp (m - max m m') + l' * Ideal.exp (m' - max m m')) := by
  obtain ⟨rfl, rfl, rfl⟩ := h'
  have := h.step d
  rwa [← sums_shift B s v (le_max_right m _), ← weights_shift B s (le_max_right m _)] at this

end Cert.RingAttn

end
-- ==== Proof.Chunks.lean ====
/-
# The accumulators, key by key

Over the extended reals: after `n` chunks a device's accumulators are the sums, the maximum and the weighted output of
its first `1024·n` keys, and a ring merge is that of the two devices' keys together.
-/
module

public import proofs.«01_k».proof.Proof.Ops
public import proofs.«01_k».proof.Proof.Soft

@[expose] public section

noncomputable section

namespace Cert.RingAttn

open Cert.KernelIdeal Cert.KernelIdeal.Gen

open Idealize.ShloMosaic Idealize.ShloMosaic.TcCoe Idealize.ShloMosaic.ValueIdx

/-! ## A run of 1024 keys -/

/-- The keys from `b` on. -/
def runFrom (b : ℕ) : Fin 1024 ↪ ℕ := ⟨fun j => b + j.val, fun i j h => Fin.ext (Nat.add_left_cancel h)⟩

theorem run_eq (b : ℕ) : Finset.Ico b (b + 1024) = Finset.univ.map (runFrom b) := by
  ext n
  rw [Finset.mem_Ico, Finset.mem_map]
  constructor
  · rintro ⟨h, h'⟩
    exact ⟨⟨n - b, by omega⟩, Finset.mem_univ _, by show b + (n - b) = n; omega⟩
  · rintro ⟨j, -, rfl⟩
    show b ≤ b + j.val ∧ b + j.val < b + 1024
    omega

/-- One chunk's scores and values added. -/
theorem Soft.chunk {a b : ℕ} (hab : a ≤ b) {s v : ℕ → EReal} {o m l : EReal} (h : Soft (Finset.Ico a b) s v o m l) {sj vj : Fin 1024 → EReal}
    (hs : ∀ j, sj j = s (b + j.val)) (hv : ∀ j, vj j = v (b + j.val)) :
    Soft (Finset.Ico a (b + 1024)) s v
      (o * Ideal.exp (m - max m (Finset.univ.sup sj)) + ∑ j, Ideal.exp (sj j - max m (Finset.univ.sup sj)) * vj j)
      (max m (Finset.univ.sup sj))
      (l * Ideal.exp (m - max m (Finset.univ.sup sj)) + ∑ j, Ideal.exp (sj j - max m (Finset.univ.sup sj))) := by
  have d : Disjoint (Finset.Ico a b) (Finset.Ico b (b + 1024)) := Finset.Ico_disjoint_Ico_consecutive a b (b + 1024)
  have := h.step d
  rw [Finset.Ico_union_Ico_eq_Ico hab (by omega), run_eq b, Finset.sup_map, Finset.sum_map, Finset.sum_map] at this
  obtain rfl : sj = s ∘ runFrom b := funext hs
  obtain rfl : vj = v ∘ runFrom b := funext hv
  exact this

/-! ## One chunk of one head group -/

theorem pay64_eq (q : Vec Ideal S1x512x128 .f32) (k v : Vec Ideal S1x1x1024x128 .f32) (m : Vec Ideal S1x512x1 .f32) (o : Vec Ideal S1x512x128 .f32) :
    k0_pay64 (k0_pay56 q) (k0_pay57 k) v m o = k0_pay54 (k0_pay46 v) (k0_pay47 q k) (k0_pay48 q k) m o := rfl
theorem pay63_eq (q : Vec Ideal S1x512x128 .f32) (k : Vec Ideal S1x1x1024x128 .f32) (m l : Vec Ideal S1x512x1 .f32) :
    k0_pay63 (k0_pay56 q) (k0_pay57 k) m l = k0_pay53 (k0_pay47 q k) (k0_pay48 q k) m l := rfl
theorem pay1_eq (q : Vec Ideal S1x512x128 .f32) (k : Vec Ideal S1x1x1024x128 .f32) (m : Vec Ideal S1x512x1 .f32) :
    k0_pay1 (k0_pay60 (k0_pay56 q) (k0_pay57 k) m) = k0_pay55 (k0_pay48 q k) m := rfl

/-- Row `r`, column `d` of head group `g` of the accumulators, as the sums over the keys of `A`. -/
abbrev Holds (A : Finset ℕ) (s v : ℕ → EReal) (st : St Ideal) (g : Fin 2) (r : Fin 512) (d : Fin 128) : Prop :=
  Soft A s v (st.o (ix3 g r d)) (st.m (ix3 g r 0)) (st.l (ix3 g r 0))

section Half

variable {a b : ℕ} (hab : a ≤ b) {s v : ℕ → EReal} (q : Vec Ideal S2x512x128 .f32) (k w : Vec Ideal S1x1x1024x128 .f32) (st : St Ideal)
  (r : Fin 512) (d : Fin 128)

include hab in
theorem half0_soft (h : Holds (Finset.Ico a b) s v st 0 r d) (hs : ∀ j : Fin 1024, ∑ x : Fin 128, q (ix3 0 r x) * k (ix4 0 0 j x) = s (b + j.val))
    (hv : ∀ j : Fin 1024, w (ix4 0 0 j d) = v (b + j.val)) : Holds (Finset.Ico a (b + 1024)) s v (half0 q k w st) 0 r d := by
  have hs' : ∀ j, sc (rdQ0 q) k r j = s (b + j.val) := fun j => by
    rw [← hs j]; exact Finset.sum_congr rfl fun x _ => by rw [rdQ0_at]
  have H := h.chunk hab hs' hv
  have eo := (wrO0_hit r d st.o _).trans (newO_at (rdQ0 q) k w (rdM0 st.m) (rdO0 st.o) r d)
  have em := (wrM0_hit r st.m _).trans (newM_at (rdQ0 q) k (rdM0 st.m) r)
  have el := (wrL0_hit r st.l _).trans (newL_at (rdQ0 q) k (rdM0 st.m) (rdL0 st.l) r)
  rw [mxNew, rdM0_at] at eo em el
  rw [rdO0_at] at eo
  rw [rdL0_at] at el
  rw [← eo, ← el, ← em] at H
  exact H

include hab in
theorem half1_soft (h : Holds (Finset.Ico a b) s v st 1 r d) (hs : ∀ j : Fin 1024, ∑ x : Fin 128, q (ix3 1 r x) * k (ix4 0 0 j x) = s (b + j.val))
    (hv : ∀ j : Fin 1024, w (ix4 0 0 j d) = v (b + j.val)) : Holds (Finset.Ico a (b + 1024)) s v (half1 q k w st) 1 r d := by
  have hs' : ∀ j, sc (rdQ1 q) k r j = s (b + j.val) := fun j => by
    rw [← hs j]; exact Finset.sum_congr rfl fun x _ => by rw [rdQ1_at]
  have H := h.chunk hab hs' hv
  have eo := ((wrO1_hit r d st.o _).trans (congrFun (pay64_eq (rdQ1 q) k w (rdM1 st.m) (rdO1 st.o)) _)).trans (newO_at (rdQ1 q) k w (rdM1 st.m) (rdO1 st.o) r d)
  have em := ((wrM1_hit r st.m _).trans (congrFun (pay1_eq (rdQ1 q) k (rdM1 st.m)) _)).trans (newM_at (rdQ1 q) k (rdM1 st.m) r)
  have el := ((wrL1_hit r st.l _).trans (congrFun (pay63_eq (rdQ1 q) k (rdM1 st.m) (rdL1 st.l)) _)).trans (newL_at (rdQ1 q) k (rdM1 st.m) (rdL1 st.l) r)
  rw [mxNew, rdM1_at] at eo em el
  rw [rdO1_at] at eo
  rw [rdL1_at] at el
  rw [← eo, ← el, ← em] at H
  exact H

theorem half0_other {A : Finset ℕ} (h : Holds A s v st 1 r d) : Holds A s v (half0 q k w st) 1 r d := by
  have eo : (half0 q k w st).o (ix3 1 r d) = st.o (ix3 1 r d) := by
    unfold half0; dsimp only; rw [wrO0_miss]
  have em : (half0 q k w st).m (ix3 1 r 0) = st.m (ix3 1 r 0) := by
    unfold half0; dsimp only; rw [wrM0_miss]
  have el : (half0 q k w st).l (ix3 1 r 0) = st.l (ix3 1 r 0) := by
    unfold half0; dsimp only; rw [wrL0_miss]
  unfold Holds
  rw [eo, em, el]
  exact h

theorem half1_other {A : Finset ℕ} (h : Holds A s v st 0 r d) : Holds A s v (half1 q k w st) 0 r d := by
  have eo : (half1 q k w st).o (ix3 0 r d) = st.o (ix3 0 r d) := by
    unfold half1; dsimp only; rw [wrO1_miss]
  have em : (half1 q k w st).m (ix3 0 r 0) = st.m (ix3 0 r 0) := by
    unfold half1; dsimp only; rw [wrM1_miss]
  have el : (half1 q k w st).l (ix3 0 r 0) = st.l (ix3 0 r 0) := by
    unfold half1; dsimp only; rw [wrL1_miss]
  unfold Holds
  rw [eo, em, el]
  exact h

end Half

/-! ## All the chunks -/

theorem st0_soft (s v : ℕ → EReal) (g : Fin 2) (r : Fin 512) (d : Fin 128) : Holds ∅ s v st0 g r d := by
  have eo : (st0 (F := Ideal)).o (ix3 g r d) = 0 := by
    unfold st0 k0_pay13; dsimp only; rw [shapeCast_self]; exact zero_const
  have em : (st0 (F := Ideal)).m (ix3 g r 0) = ⊥ := by
    unfold st0 k0_pay15; dsimp only; rw [shapeCast_self]; exact bot_const
  have el : (st0 (F := Ideal)).l (ix3 g r 0) = 0 := by
    unfold st0 k0_pay14; dsimp only; rw [shapeCast_self]; exact zero_const
  unfold Holds
  rw [eo, em, el]
  exact soft_none

/-- After `n` chunks: the first `1024·n` of the device's keys, which are the whole array's from key `a` on. -/
theorem stAt_soft (q : Vec Ideal S2x512x128 .f32) (K V : Vec Ideal S1x32768x2x128 .f32) (kf vf : Fin 2 → ℕ → Fin 128 → EReal) (a : ℕ)
    (hK : ∀ (i : Fin 32768) g x, K (ix4 0 i g x) = kf g (a + i.val) x) (hV : ∀ (i : Fin 32768) g x, V (ix4 0 i g x) = vf g (a + i.val) x)
    (g : Fin 2) (r : Fin 512) (d : Fin 128) (n : ℕ) (hn : n ≤ 32) :
    Holds (Finset.Ico a (a + 1024 * n)) (fun i => ∑ x : Fin 128, q (ix3 g r x) * kf g i x) (fun i => vf g i d) (stAt q K V n) g r d := by
  induction n with
  | zero => rw [Nat.mul_zero, Nat.add_zero, Finset.Ico_self]; exact st0_soft _ _ g r d
  | succ n ih =>
    have ih := ih (by omega)
    have hk : ∀ (A : Vec Ideal S1x32768x2x128 .f32) (f : Fin 2 → ℕ → Fin 128 → EReal) (hA : ∀ (i : Fin 32768) g x, A (ix4 0 i g x) = f g (a + i.val) x)
        (g : ℕ) (hg : g < 2) (j : Fin 1024) (x : Fin 128), chunkV A n g hg (ix4 0 0 j x) = f ⟨g, hg⟩ (a + 1024 * n + j.val) x := fun A f hA g hg j x => by
      rw [chunkV_at, hA]
      congr 1
      show a + (1024 * (n % 32) + j.val) = _
      rw [Nat.mod_eq_of_lt (by omega), Nat.add_assoc]
    rw [Nat.mul_succ, ← Nat.add_assoc]
    have hle : a ≤ a + 1024 * n := Nat.le_add_right _ _
    match g, ih with
    | 0, ih =>
      exact half1_other q _ _ _ r d (half0_soft hle q _ _ _ r d ih (fun j => Finset.sum_congr rfl fun x _ => by rw [hk K kf hK 0]; rfl)
        fun j => hk V vf hV 0 (by decide) j d)
    | 1, ih =>
      exact half1_soft hle q _ _ _ r d (half0_other q _ _ _ r d ih) (fun j => Finset.sum_congr rfl fun x _ => by rw [hk K kf hK 1]; rfl)
        fun j => hk V vf hV 1 (by decide) j d

/-! ## The merges -/

theorem merge2_eq (p : Msg Ideal) (s : St Ideal) : merge2 p s = merge1 p s := rfl
theorem merge3_eq (p : Msg Ideal) (s : St Ideal) : merge3 p s = merge1 p s := rfl

theorem peer_o (s : St Ideal) : k0_pay19 (msgOf s).o = s.o := by
  unfold msgOf k0_pay16 k0_pay19
  exact shapeCast_shapeCast _ _ _
theorem peer_m (s : St Ideal) : k0_pay20 (msgOf s).m = s.m := by
  unfold msgOf k0_pay17 k0_pay20
  exact shapeCast_shapeCast _ _ _
theorem peer_l (s : St Ideal) : k0_pay21 (msgOf s).l = s.l := by
  unfold msgOf k0_pay18 k0_pay21
  exact shapeCast_shapeCast _ _ _

/-- A merge adds the peer's keys to a device's own. -/
theorem merge1_soft {A B : Finset ℕ} {s v : ℕ → EReal} {st st' : St Ideal} {g : Fin 2} {r : Fin 512} {d : Fin 128}
    (h : Holds A s v st g r d) (h' : Holds B s v st' g r d) (dj : Disjoint A B) : Holds (A ∪ B) s v (merge1 (msgOf st') st) g r d := by
  have H := Soft.merge h h' dj
  have em : (merge1 (msgOf st') st).m (ix3 g r 0) = max (st.m (ix3 g r 0)) (st'.m (ix3 g r 0)) := by
    unfold merge1 k0_pay27 k0_pay22
    dsimp only
    rw [shapeCast_self, peer_m]
    rfl
  have ew : k0_pay23 (k0_pay20 (msgOf st').m) st.m (ix3 g r 0) = Ideal.exp (st.m (ix3 g r 0) - max (st.m (ix3 g r 0)) (st'.m (ix3 g r 0))) := by
    rw [peer_m]; rfl
  have ew' : k0_pay24 (k0_pay20 (msgOf st').m) st.m (ix3 g r 0) = Ideal.exp (st'.m (ix3 g r 0) - max (st.m (ix3 g r 0)) (st'.m (ix3 g r 0))) := by
    rw [peer_m]; rfl
  have el : (merge1 (msgOf st') st).l (ix3 g r 0)
      = st.l (ix3 g r 0) * Ideal.exp (st.m (ix3 g r 0) - max (st.m (ix3 g r 0)) (st'.m (ix3 g r 0)))
        + st'.l (ix3 g r 0) * Ideal.exp (st'.m (ix3 g r 0) - max (st.m (ix3 g r 0)) (st'.m (ix3 g r 0))) := by
    unfold merge1 k0_pay26
    dsimp only
    rw [shapeCast_self, addf_apply, mulf_apply, mulf_apply, ew, ew', peer_l]
  have eo : (merge1 (msgOf st') st).o (ix3 g r d)
      = st.o (ix3 g r d) * Ideal.exp (st.m (ix3 g r 0) - max (st.m (ix3 g r 0)) (st'.m (ix3 g r 0)))
        + st'.o (ix3 g r d) * Ideal.exp (st'.m (ix3 g r 0) - max (st.m (ix3 g r 0)) (st'.m (ix3 g r 0))) := by
    unfold merge1 k0_pay25
    dsimp only
    rw [shapeCast_self, addf_apply, mulf_apply, mulf_apply, spread3_apply, spread3_apply, ew, ew', peer_o]
  rw [← eo, ← el, ← em] at H
  exact H

end Cert.RingAttn

end
-- ==== Proof.Result.lean ====
/-
# The kernel's result at an index

Over the extended reals: the scaled queries at an index, the merged accumulators as the sums over all the keys, and
the result block as one sum over the heads' columns.
-/
module

public import proofs.«01_k».proof.Proof.Chunks
public import proofs.«01_k».proof.Proof.Point

@[expose] public section

noncomputable section

namespace Cert.RingAttn

open Cert.KernelIdeal Cert.KernelIdeal.Gen

open Idealize.ShloMosaic Idealize.ShloMosaic.TcCoe Idealize.ShloMosaic.ValueIdx

/-! ## The queries -/

section Queries

variable (x : Vec Ideal S1x128x1024 .f32) (wq : Vec Ideal S1024x1024 .f32)

theorem pay5_eq (w : Vec Ideal S1024x128 .f32) : k0_pay5 x w = k0_pay4 x w := rfl
theorem pay7_eq (w : Vec Ideal S1024x128 .f32) : k0_pay7 (k0_pay6 x w) (Scalar.ofBits .f32 0x3DB504F3#32) = k0_pay4 x w := rfl
theorem pay8_eq (w : Vec Ideal S1024x128 .f32) : k0_pay8 (k0_pay3 x) w = k0_pay4 x w := rfl
theorem pay9_eq (w : Vec Ideal S1024x128 .f32) : k0_pay9 (k0_pay3 x) w = k0_pay4 x w := rfl
theorem pay10_eq (w : Vec Ideal S1024x128 .f32) : k0_pay10 (k0_pay3 x) w = k0_pay4 x w := rfl
theorem pay11_eq (w : Vec Ideal S1024x128 .f32) : k0_pay11 (k0_pay3 x) w = k0_pay4 x w := rfl
theorem pay12_eq (w : Vec Ideal S1024x128 .f32) : k0_pay12 (k0_pay3 x) w = k0_pay4 x w := rfl

/-- Row `r` of head group `g` is row `r mod 128` of `x` at head `4g + r / 128`. -/
def qVal (g : Fin 2) (r : Fin 512) (k : Fin 128) : EReal :=
  (∑ y : Fin 1024, x (ix3 0 ⟨r.val % 128, by omega⟩ y) * wq (ix2 y ⟨512 * g.val + 128 * (r.val / 128) + k.val, by omega⟩)) * scale

theorem qPut_step (f : Vec Ideal S2x512x128 .f32) (g h : ℕ) (hb) (c : ℕ) (hc) (hg : c = 512 * g + h) (hh : 128 * (h / 128) = h)
    (G : Fin 2) (r : Fin 512) (k : Fin 128) :
    qPut f g h hb (k0_pay4 x (wqCol wq c hc)) (ix3 G r k)
      = if G.val = g ∧ h ≤ r.val ∧ r.val < h + 128 then qVal x wq G r k else f (ix3 G r k) := by
  split
  case isTrue hi =>
    obtain ⟨h1, h2, h3⟩ := hi
    have hr : h + (r.val - h) < 512 := by have := r.isLt; omega
    have hG : g < 2 := by have := G.isLt; omega
    have e : (ix3 G r k : S2x512x128.Idx) = ix3 ⟨g, hG⟩ ⟨h + (⟨r.val - h, by omega⟩ : Fin 128).val, hr⟩ k := by
      have e1 : G = ⟨g, hG⟩ := Fin.ext h1
      have e2 : r = ⟨h + (⟨r.val - h, by omega⟩ : Fin 128).val, hr⟩ := Fin.ext (by show r.val = h + (r.val - h); omega)
      exact congrArg₂ (fun a b => (ix3 a b k : S2x512x128.Idx)) e1 e2
    refine (congrArg _ e).trans ((qPut_hit f g h hb _ ⟨r.val - h, by omega⟩ k hG hr).trans ((qPay_at x _ _ k).trans ?_))
    refine congrArg (· * scale) (Finset.sum_congr rfl fun y _ => ?_)
    rw [wqCol_at wq c hc y k (by have := k.isLt; have := r.isLt; omega)]
    congr 3
    · exact Fin.ext (by show r.val - h = r.val % 128; omega)
    · exact Fin.ext (by show c + k.val = 512 * G.val + 128 * (r.val / 128) + k.val; omega)
  case isFalse hi => exact qPut_miss f g h hb _ _ hi

/-- The query buffer at an index. -/
theorem qC_at (g : Fin 2) (r : Fin 512) (k : Fin 128) : qC x wq (ix3 g r k) = qVal x wq g r k := by
  unfold qC qOver
  rw [pay5_eq, pay7_eq, pay8_eq, pay9_eq, pay10_eq, pay11_eq, pay12_eq]
  rw [qPut_step x wq _ 1 384 _ 896 _ rfl rfl, qPut_step x wq _ 1 256 _ 768 _ rfl rfl, qPut_step x wq _ 1 128 _ 640 _ rfl rfl,
    qPut_step x wq _ 1 0 _ 512 _ rfl rfl, qPut_step x wq _ 0 384 _ 384 _ rfl rfl, qPut_step x wq _ 0 256 _ 256 _ rfl rfl,
    qPut_step x wq _ 0 128 _ 128 _ rfl rfl, qPut_step x wq _ 0 0 _ 0 _ rfl rfl]
  have := g.isLt
  have := r.isLt
  split_ifs <;> first | rfl | omega

end Queries

/-! ## The ring -/

/-- The keys of device `e`. -/
def devKeys (e : ℕ) : Finset ℕ := Finset.Ico (32768 * e) (32768 * (e + 1))

theorem mem_devKeys (e n : ℕ) : n ∈ devKeys e ↔ 32768 * e ≤ n ∧ n < 32768 * (e + 1) := Finset.mem_Ico

theorem devKeys_disjoint {e e' : ℕ} (h : e ≠ e') : Disjoint (devKeys e) (devKeys e') :=
  Finset.disjoint_left.2 fun n hn hn' => by
    rw [mem_devKeys] at hn hn'
    omega

theorem back_val (c : Dev nD) : (back c 1).val = (c.val + 3) % 4 ∧ (back c 2).val = (c.val + 2) % 4 ∧ (back c 3).val = (c.val + 1) % 4 := by
  revert c; decide

/-- A device and the three behind it hold all the keys. -/
theorem ring_keys (c : Dev nD) :
    ((devKeys c.val ∪ devKeys (back c 1).val) ∪ devKeys (back c 2).val) ∪ devKeys (back c 3).val = Finset.range 131072 := by
  obtain ⟨h1, h2, h3⟩ := back_val c
  have hc : c.val < 4 := c.isLt
  ext n
  rw [Finset.mem_union, Finset.mem_union, Finset.mem_union, mem_devKeys, mem_devKeys, mem_devKeys, mem_devKeys, Finset.mem_range, h1, h2, h3]
  omega

theorem merged_soft (c : Dev nD) (S : Dev nD → St Ideal) {s v : ℕ → EReal} {g : Fin 2} {r : Fin 512} {d : Fin 128}
    (h : ∀ e : Dev nD, Holds (devKeys e.val) s v (S e) g r d) :
    Holds (Finset.range 131072) s v (mergedAt c (fun e => msgOf (S e)) (S c)) g r d := by
  obtain ⟨h1, h2, h3⟩ := back_val c
  have hc : c.val < 4 := c.isLt
  have m1 := merge1_soft (h c) (h (back c 1)) (devKeys_disjoint (by omega))
  have m2 := merge1_soft m1 (h (back c 2)) (Finset.disjoint_union_left.2 ⟨devKeys_disjoint (by omega), devKeys_disjoint (by omega)⟩)
  have m3 := merge1_soft m2 (h (back c 3)) (Finset.disjoint_union_left.2
    ⟨Finset.disjoint_union_left.2 ⟨devKeys_disjoint (by omega), devKeys_disjoint (by omega)⟩, devKeys_disjoint (by omega)⟩)
  rw [ring_keys] at m3
  unfold mergedAt
  rw [merge3_eq, merge2_eq]
  exact m3

/-! ## The result block -/

section Block

variable (st : St Ideal) (wo : Vec Ideal S1024x1024 .f32) (i : Fin 128) (j : Fin 1024)

/-- The attention at row `r` of head group `g`. -/
def attn (g : Fin 2) (r : Fin 512) (k : Fin 128) : EReal := Ideal.div (st.o (ix3 g r k)) (st.l (ix3 g r 0))

theorem pay44_at (g : Fin 2) (r : Fin 512) (k : Fin 128) : k0_pay44 st.o st.l (ix3 g r k) = attn st g r k := by
  show Ideal.div (st.o (ix3 g r k)) (broadcastTo S2x512x128 st.l broadcasts_S2x512x1_S2x512x128 (ix3 g r k)) = _
  rw [spread3_apply]
  rfl

/-- One head's part of the result. -/
theorem head_at (g h c : ℕ) (hs : S2x512x128.Slices ![g, h, 0] S1x128x128) (hb) (hg : g < 2) (hh : h + 128 ≤ 512) (hc : c + 128 ≤ 1024) :
    matmul (F := Ideal) (φ₁ := .f32) (φ₂ := .f32) dot_S128x128_S128x1024_S128x1024_1_0_0_1_n_n none
        (shapeCast S128x128 (extractStridedSlice S1x128x128 ![g, h, 0] (k0_pay44 st.o st.l) hs) shapeCasts_S1x128x128_S128x128)
        (shapeCast S128x1024 (woRow wo c hb) shapeCasts_S128x1024_S128x1024) (constant S128x1024 .f32 0x00000000#32) (ix2 i j)
      = ∑ k : Fin 128, attn st ⟨g, hg⟩ ⟨h + i.val, by omega⟩ k * wo (ix2 ⟨c + k.val, by omega⟩ j) := by
  refine (times_at dot_S128x128_S128x1024_S128x1024_1_0_0_1_n_n rfl _ _ i j).trans (Finset.sum_congr rfl fun k _ => ?_)
  rw [shapeCast_self, woRow_at wo c hb k j (by omega), shapeCast_1ab_ab_apply]
  refine congrArg (· * _) ?_
  refine (extractStridedSlice_apply _ _ _ _ (ix3 ⟨g, hg⟩ ⟨h + i.val, by omega⟩ k) fun a => ?_).trans (pay44_at st _ _ k)
  match a with
  | ⟨0, _⟩ => rfl
  | ⟨1, _⟩ => rfl
  | ⟨2, _⟩ => exact (Nat.zero_add _).symm

/-- Column `y` of the attention of row `i`: head `y / 128`, that is head group `y / 512`. -/
def attnCol (y : Fin 1024) : EReal :=
  attn st ⟨y.val / 512, by omega⟩ ⟨128 * (y.val / 128 % 4) + i.val, by omega⟩ ⟨y.val % 128, by omega⟩

theorem sum_heads (f : Fin 1024 → EReal) : ∑ y, f y = ∑ h : Fin 8, ∑ k : Fin 128, f ⟨128 * h.val + k.val, by omega⟩ := by
  rw [← Fintype.sum_prod_type']
  refine (Fintype.sum_equiv (finProdFinEquiv (m := 8) (n := 128)) _ _ fun p => ?_).symm
  exact congrArg f (Fin.ext (by show 128 * p.1.val + p.2.val = p.2.val + 128 * p.1.val; omega))

/-- One head's part, by columns. -/
theorem head_cols (h : Fin 8) : ∑ k : Fin 128, attnCol st i ⟨128 * h.val + k.val, by omega⟩ * wo (ix2 ⟨128 * h.val + k.val, by omega⟩ j)
    = ∑ k : Fin 128, attn st ⟨h.val / 4, by omega⟩ ⟨128 * (h.val % 4) + i.val, by omega⟩ k * wo (ix2 ⟨128 * h.val + k.val, by omega⟩ j) := by
  refine Finset.sum_congr rfl fun k _ => congrArg (· * _) ?_
  unfold attnCol
  congr 1 <;> apply Fin.ext
  · show (128 * h.val + k.val) / 512 = h.val / 4; omega
  · show 128 * ((128 * h.val + k.val) / 128 % 4) + i.val = 128 * (h.val % 4) + i.val; omega
  · show (128 * h.val + k.val) % 128 = k.val; omega

theorem outOf_at : outOf wo st (ix3 0 i j) = ∑ y : Fin 1024, attnCol st i y * wo (ix2 y j) := by
  rw [sum_heads, Fin.sum_univ_eight]
  simp only [head_cols st wo i j]
  unfold outOf k0_pay2 k0_pay45
  dsimp only
  rw [shapeCast_ab_1ab_apply]
  simp only [addf_apply]
  rw [head_at st wo i j 0 0 0 _ _ (by decide) (by decide) (by decide), head_at st wo i j 0 128 128 _ _ (by decide) (by decide) (by decide),
    head_at st wo i j 0 256 256 _ _ (by decide) (by decide) (by decide), head_at st wo i j 0 384 384 _ _ (by decide) (by decide) (by decide),
    head_at st wo i j 1 0 512 _ _ (by decide) (by decide) (by decide), head_at st wo i j 1 128 640 _ _ (by decide) (by decide) (by decide),
    head_at st wo i j 1 256 768 _ _ (by decide) (by decide) (by decide), head_at st wo i j 1 384 896 _ _ (by decide) (by decide) (by decide)]
  have z : broadcast S128x1024 (Scalar.ofBits (F := Ideal) .f32 0x00000000#32) (ix2 i j) = (0 : EReal) := zero_const
  rw [z, zero_add]
  rfl

end Block

end Cert.RingAttn

end
-- ==== Proof.Reference.lean ====
/-
# The reference's result at an index

The reference's composed value, cut into its steps, and each step at an index over the extended reals.
-/
module

public import proofs.«01_k».proof.Proof.Ops
public import proofs.«01_k».proof.Proof.Gen.ReferenceIdeal.Run
public import Idealize.ShloMosaic.Lib.IdealHost

@[expose] public section

noncomputable section

namespace Cert.RingAttn.Ref

open Cert.ReferenceIdeal Cert.ReferenceIdeal.Gen

open Idealize.ShloMosaic Idealize.ShloMosaic.TcCoe Idealize.ShloMosaic.ValueIdx

variable (x : FVec Ideal S1x128x1024 .f32) (wq wo : FVec Ideal S1024x1024 .f32) (K V : FVec Ideal S1x131072x2x128 .f32)

/-! ## The steps -/

/-- The queries by heads. -/
def rQ : FVec Ideal S1x128x8x128 .f32 :=
  shapeCast _ (Host.dotGeneral (F := Ideal) (φ₁ := .f32) (φ₂ := .f32) dot_S1x128x1024_S1024x1024_S1x128x1024_2_0_01_1_n_n none x wq) shapeCasts_S1x128x1024_S1x128x8x128
/-- Keys, or values, with each head group's copied to its four heads. -/
def rK (A : FVec Ideal S1x131072x2x128 .f32) : FVec Ideal S1x131072x8x128 .f32 :=
  shapeCast _ (broadcastInDim S1x131072x2x4x128 ![0, 1, 2, 4] bcast_S1x131072x2x128_S1x131072x2x4x128_0_1_2_4 A) shapeCasts_S1x131072x2x4x128_S1x131072x8x128
/-- The scaled scores. -/
def rS : FVec Ideal S1x8x128x131072 .f32 :=
  mulf (Host.dotGeneral (F := Ideal) (φ₁ := .f32) (φ₂ := .f32) dot_S1x128x8x128_S1x131072x8x128_S1x8x128x131072_3_3_1_1_02_02 none (rQ x wq) (rK K))
    (broadcastInDim S1x8x128x131072 ![] bcast_S_S1x8x128x131072 (constant S_ .f32 0x3DB504F3#32))
/-- Each row's largest score. -/
def rM : FVec Ideal S1x8x128 .f32 :=
  Host.reduce FloatOps.maximumf (rS x wq K) (constant S_ .f32 0xFF800000#32) reducesTo_S1x8x128x131072_S1x8x128_d3 h_S_
/-- The weights. -/
def rP : FVec Ideal S1x8x128x131072 .f32 :=
  Host.exp (subf (rS x wq K) (broadcastInDim S1x8x128x131072 ![0, 1, 2, 3] bcast_S1x8x128x1_S1x8x128x131072_0_1_2_3
    (broadcastInDim S1x8x128x1 ![0, 1, 2] bcast_S1x8x128_S1x8x128x1_0_1_2 (rM x wq K))))
/-- Each row's sum of weights. -/
def rL : FVec Ideal S1x8x128 .f32 :=
  Host.reduceAdd (rP x wq K) (constant S_ .f32 0x00000000#32) reducesTo_S1x8x128x131072_S1x8x128_d3 h_S_
/-- The weighted values. -/
def rO : FVec Ideal S1x8x128x128 .f32 :=
  Host.dotGeneral (F := Ideal) (φ₁ := .f32) (φ₂ := .f32) dot_S1x131072x8x128_S1x8x128x131072_S1x8x128x128_1_3_3_2_02_01 none (rK V) (rP x wq K)
/-- The attention. -/
def rA : FVec Ideal S1x128x8x128 .f32 :=
  Host.divf (transpose S1x128x8x128 [0, 3, 1, 2] (rO x wq K V) transposes_S1x8x128x128_S1x128x8x128_0_3_1_2)
    (broadcastInDim S1x128x8x128 ![0, 1, 2, 3] bcast_S1x128x8x1_S1x128x8x128_0_1_2_3
      (transpose S1x128x8x1 [0, 2, 1, 3] (broadcastInDim S1x8x128x1 ![0, 1, 2] bcast_S1x8x128_S1x8x128x1_0_1_2 (rL x wq K))
        transposes_S1x8x128x1_S1x128x8x1_0_2_1_3))
/-- The result. -/
def rOut : FVec Ideal S1x128x1024 .f32 :=
  Host.dotGeneral (F := Ideal) (φ₁ := .f32) (φ₂ := .f32) dot_S1x128x1024_S1024x1024_S1x128x1024_2_0_01_1_n_n none
    (shapeCast _ (rA x wq K V) shapeCasts_S1x128x8x128_S1x128x1024) wo

/-! ## The three products at an index -/

theorem dot_rows (a : FVec Ideal S1x128x1024 .f32) (b : FVec Ideal S1024x1024 .f32) (i : Fin 128) (j : Fin 1024) :
    Host.dotGeneral (F := Ideal) (φ₁ := .f32) (φ₂ := .f32) dot_S1x128x1024_S1024x1024_S1x128x1024_2_0_01_1_n_n none a b (ix3 0 i j)
      = ∑ y : Fin 1024, a (ix3 0 i y) * b (ix2 y j) := by
  let D := dot_S1x128x1024_S1024x1024_S1x128x1024_2_0_01_1_n_n
  refine (Ideal.dotGeneral_apply D none _ a b (ix3 0 i j)).trans ?_
  rw [← Equiv.sum_comp (contrEquiv1 D 1024 rfl rfl).symm]
  refine Finset.sum_congr rfl fun y _ => ?_
  have hy := contrEquiv1_symm_val D 1024 rfl rfl y
  have el : D.lhsIdx (ix3 0 i j) ((contrEquiv1 D 1024 rfl rfl).symm y) = ix3 0 i y := by
    funext c; apply Fin.ext
    match c with
    | ⟨0, _⟩ => rfl
    | ⟨1, _⟩ => rfl
    | ⟨2, _⟩ => exact hy
  have er : D.rhsIdx (ix3 0 i j) ((contrEquiv1 D 1024 rfl rfl).symm y) = ix2 y j := by
    funext c; apply Fin.ext
    match c with
    | ⟨0, _⟩ => exact hy
    | ⟨1, _⟩ => rfl
  rw [el, er]

theorem dot_scores (a : FVec Ideal S1x128x8x128 .f32) (b : FVec Ideal S1x131072x8x128 .f32) (h : Fin 8) (i : Fin 128) (n : Fin 131072) :
    Host.dotGeneral (F := Ideal) (φ₁ := .f32) (φ₂ := .f32) dot_S1x128x8x128_S1x131072x8x128_S1x8x128x131072_3_3_1_1_02_02 none a b (ix4 0 h i n)
      = ∑ k : Fin 128, a (ix4 0 i h k) * b (ix4 0 n h k) := by
  let D := dot_S1x128x8x128_S1x131072x8x128_S1x8x128x131072_3_3_1_1_02_02
  refine (Ideal.dotGeneral_apply D none _ a b (ix4 0 h i n)).trans ?_
  rw [← Equiv.sum_comp (contrEquiv1 D 128 rfl rfl).symm]
  refine Finset.sum_congr rfl fun y _ => ?_
  have hy := contrEquiv1_symm_val D 128 rfl rfl y
  have el : D.lhsIdx (ix4 0 h i n) ((contrEquiv1 D 128 rfl rfl).symm y) = ix4 0 i h y := by
    funext c; apply Fin.ext
    match c with
    | ⟨0, _⟩ => rfl
    | ⟨1, _⟩ => rfl
    | ⟨2, _⟩ => rfl
    | ⟨3, _⟩ => exact hy
  have er : D.rhsIdx (ix4 0 h i n) ((contrEquiv1 D 128 rfl rfl).symm y) = ix4 0 n h y := by
    funext c; apply Fin.ext
    match c with
    | ⟨0, _⟩ => rfl
    | ⟨1, _⟩ => rfl
    | ⟨2, _⟩ => rfl
    | ⟨3, _⟩ => exact hy
  rw [el, er]

theorem dot_values (a : FVec Ideal S1x131072x8x128 .f32) (b : FVec Ideal S1x8x128x131072 .f32) (h : Fin 8) (d i : Fin 128) :
    Host.dotGeneral (F := Ideal) (φ₁ := .f32) (φ₂ := .f32) dot_S1x131072x8x128_S1x8x128x131072_S1x8x128x128_1_3_3_2_02_01 none a b (ix4 0 h d i)
      = ∑ n : Fin 131072, a (ix4 0 n h d) * b (ix4 0 h i n) := by
  let D := dot_S1x131072x8x128_S1x8x128x131072_S1x8x128x128_1_3_3_2_02_01
  refine (Ideal.dotGeneral_apply D none _ a b (ix4 0 h d i)).trans ?_
  rw [← Equiv.sum_comp (contrEquiv1 D 131072 rfl rfl).symm]
  refine Finset.sum_congr rfl fun y _ => ?_
  have hy := contrEquiv1_symm_val D 131072 rfl rfl y
  have el : D.lhsIdx (ix4 0 h d i) ((contrEquiv1 D 131072 rfl rfl).symm y) = ix4 0 y h d := by
    funext c; apply Fin.ext
    match c with
    | ⟨0, _⟩ => rfl
    | ⟨1, _⟩ => exact hy
    | ⟨2, _⟩ => rfl
    | ⟨3, _⟩ => rfl
  have er : D.rhsIdx (ix4 0 h d i) ((contrEquiv1 D 131072 rfl rfl).symm y) = ix4 0 h i y := by
    funext c; apply Fin.ext
    match c with
    | ⟨0, _⟩ => rfl
    | ⟨1, _⟩ => rfl
    | ⟨2, _⟩ => rfl
    | ⟨3, _⟩ => exact hy
  rw [el, er]

/-! ## The steps at an index -/

theorem rQ_at (i : Fin 128) (h : Fin 8) (k : Fin 128) :
    rQ x wq (ix4 0 i h k) = ∑ y : Fin 1024, x (ix3 0 i y) * wq (ix2 y ⟨128 * h.val + k.val, by omega⟩) := by
  refine (shapeCast_apply _ _ _ (ix3 0 i ⟨128 * h.val + k.val, by omega⟩) ?_).trans (dot_rows x wq i _)
  rw [Shape.rowMajor_val_three, Shape.rowMajor_val_four]
  show (0 * 128 + i.val) * 1024 + (128 * h.val + k.val) = ((0 * 128 + i.val) * 8 + h.val) * 128 + k.val
  omega

theorem rK_at (A : FVec Ideal S1x131072x2x128 .f32) (n : Fin 131072) (h : Fin 8) (k : Fin 128) :
    rK A (ix4 0 n h k) = A (ix4 0 n ⟨h.val / 4, by omega⟩ k) := by
  refine (shapeCast_apply _ _ _ (ix5 0 n ⟨h.val / 4, by omega⟩ ⟨h.val % 4, by omega⟩ k) ?_).trans
    (broadcastInDim_apply _ _ _ _ (ix4 0 n ⟨h.val / 4, by omega⟩ k) fun a => ?_)
  · rw [Shape.rowMajor_val_five, Shape.rowMajor_val_four]
    show (((0 * 131072 + n.val) * 2 + h.val / 4) * 4 + h.val % 4) * 128 + k.val = ((0 * 131072 + n.val) * 8 + h.val) * 128 + k.val
    omega
  · match a with
    | ⟨0, _⟩ => rfl
    | ⟨1, _⟩ => rfl
    | ⟨2, _⟩ => rfl
    | ⟨3, _⟩ => rfl

/-- A score. -/
def rsc (h : Fin 8) (i : Fin 128) (n : Fin 131072) : EReal :=
  (∑ k : Fin 128, (∑ y : Fin 1024, x (ix3 0 i y) * wq (ix2 y ⟨128 * h.val + k.val, by omega⟩)) * K (ix4 0 n ⟨h.val / 4, by omega⟩ k)) * scale

theorem rS_at (h : Fin 8) (i : Fin 128) (n : Fin 131072) : rS x wq K (ix4 0 h i n) = rsc x wq K h i n := by
  unfold rS rsc
  rw [mulf_apply, dot_scores, broadcastInDim_scalar_apply]
  refine congrArg (· * scale) (Finset.sum_congr rfl fun k _ => ?_)
  rw [rQ_at, rK_at]

theorem row_of : S1x8x128x131072.Reduces [3] S1x8x128 := by decide

theorem lift_key (h : Fin 8) (i : Fin 128) (n : Fin 131072) : row_of.lift (ix3 0 h i) n = (ix4 0 h i n : S1x8x128x131072.Idx) := by
  funext a
  match a with
  | ⟨0, _⟩ => rfl
  | ⟨1, _⟩ => rfl
  | ⟨2, _⟩ => rfl
  | ⟨3, _⟩ => rfl

theorem rM_at (h : Fin 8) (i : Fin 128) : rM x wq K (ix3 0 h i) = Finset.univ.sup (rsc x wq K h i) := by
  unfold rM
  refine (Host.reduce_eq_fold_single (α := EReal) max (rS x wq K) _ reducesTo_S1x8x128x131072_S1x8x128_d3 row_of h_S_ (ix3 0 h i)).trans ?_
  show (Finset.univ : Finset (Fin 131072)).fold max (Ideal.ofBits .f32 0xFF800000#32) _ = _
  rw [bot_const]
  refine Finset.sup_congr rfl fun n _ => ?_
  exact (congrArg (rS x wq K) (lift_key h i n)).trans (rS_at x wq K h i n)

/-- A weight. -/
def rw8 (h : Fin 8) (i : Fin 128) (n : Fin 131072) : EReal := Ideal.exp (rsc x wq K h i n - Finset.univ.sup (rsc x wq K h i))

theorem rP_at (h : Fin 8) (i : Fin 128) (n : Fin 131072) : rP x wq K (ix4 0 h i n) = rw8 x wq K h i n := by
  have e : broadcastInDim S1x8x128x131072 ![0, 1, 2, 3] bcast_S1x8x128x1_S1x8x128x131072_0_1_2_3
      (broadcastInDim S1x8x128x1 ![0, 1, 2] bcast_S1x8x128_S1x8x128x1_0_1_2 (rM x wq K)) (ix4 0 h i n) = Finset.univ.sup (rsc x wq K h i) := by
    refine (broadcastInDim_apply _ _ _ _ (ix4 0 h i 0) fun a => ?_).trans
      ((broadcastInDim_apply _ _ _ _ (ix3 0 h i) fun a => ?_).trans (rM_at x wq K h i))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  show Ideal.exp (rS x wq K (ix4 0 h i n) - broadcastInDim S1x8x128x131072 ![0, 1, 2, 3] bcast_S1x8x128x1_S1x8x128x131072_0_1_2_3
      (broadcastInDim S1x8x128x1 ![0, 1, 2] bcast_S1x8x128_S1x8x128x1_0_1_2 (rM x wq K)) (ix4 0 h i n)) = _
  rw [e, rS_at, rw8]

theorem rL_at (h : Fin 8) (i : Fin 128) : rL x wq K (ix3 0 h i) = ∑ n, rw8 x wq K h i n := by
  unfold rL
  rw [hostReduceAdd_apply, Ideal.hostReduceAdd_single reducesTo_S1x8x128x131072_S1x8x128_d3 row_of]
  show Ideal.ofBits .f32 0x00000000#32 + _ = _
  rw [zero_const, zero_add]
  refine Finset.sum_congr rfl fun n _ => ?_
  exact (congrArg (rP x wq K) (lift_key h i n)).trans (rP_at x wq K h i n)

theorem rO_at (h : Fin 8) (d i : Fin 128) : rO x wq K V (ix4 0 h d i) = ∑ n : Fin 131072, rw8 x wq K h i n * V (ix4 0 n ⟨h.val / 4, by omega⟩ d) := by
  unfold rO
  rw [dot_values]
  refine Finset.sum_congr rfl fun n _ => ?_
  rw [rK_at, rP_at, mul_comm]

theorem rA_at (i : Fin 128) (h : Fin 8) (d : Fin 128) : rA x wq K V (ix4 0 i h d)
    = Ideal.div (∑ n : Fin 131072, rw8 x wq K h i n * V (ix4 0 n ⟨h.val / 4, by omega⟩ d)) (∑ n, rw8 x wq K h i n) := by
  unfold rA
  rw [hostDivf_apply]
  refine congrArg₂ Ideal.div ?_ ?_
  · refine (transpose_apply _ _ _ _ (ix4 0 h d i) fun b => ?_).trans (rO_at x wq K V h d i)
    match b with
    | ⟨0, _⟩ => rfl
    | ⟨1, _⟩ => rfl
    | ⟨2, _⟩ => rfl
    | ⟨3, _⟩ => rfl
  · refine (broadcastInDim_apply _ _ _ _ (ix4 0 i h 0) fun a => ?_).trans
      ((transpose_apply _ _ _ _ (ix4 0 h i 0) fun b => ?_).trans
        ((broadcastInDim_apply _ _ _ _ (ix3 0 h i) fun a => ?_).trans (rL_at x wq K h i)))
    · match a with
      | ⟨0, _⟩ => rfl
      | ⟨1, _⟩ => rfl
      | ⟨2, _⟩ => rfl
      | ⟨3, _⟩ => rfl
    · match b with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl

/-- The reference's result at an index. -/
theorem rOut_at (i : Fin 128) (j : Fin 1024) : rOut x wq wo K V (ix3 0 i j)
    = ∑ y : Fin 1024, rA x wq K V (ix4 0 i ⟨y.val / 128, by omega⟩ ⟨y.val % 128, by omega⟩) * wo (ix2 y j) := by
  unfold rOut
  rw [dot_rows]
  refine Finset.sum_congr rfl fun y _ => ?_
  have e : shapeCast S1x128x1024 (rA x wq K V) shapeCasts_S1x128x8x128_S1x128x1024 (ix3 0 i y)
      = rA x wq K V (ix4 0 i ⟨y.val / 128, by omega⟩ ⟨y.val % 128, by omega⟩) := by
    refine shapeCast_apply _ _ _ _ ?_
    rw [Shape.rowMajor_val_three, Shape.rowMajor_val_four]
    show ((0 * 128 + i.val) * 8 + y.val / 128) * 128 + y.val % 128 = (0 * 128 + i.val) * 1024 + y.val
    omega
  rw [e]

end Cert.RingAttn.Ref

end
-- ==== Proof.Equal.lean ====
/-
# The kernel computes the reference

Over the extended reals, from the parts of the reference's arrays, every device's result block is the reference's
result: the attention of each head row is the same quotient of the same two sums over all the keys.
-/
module

public import proofs.«01_k».proof.Proof.Frames
public import proofs.«01_k».proof.Proof.Result
public import proofs.«01_k».proof.Proof.Reference

@[expose] public section

noncomputable section

namespace Cert.RingAttn

open Idealize.ShloMosaic Idealize.ShloMosaic.TcCoe Idealize.ShloMosaic.ValueIdx Idealize.SL.Sem

open Cert.KernelIdeal (S1x128x1024 S1024x1024 S1x32768x2x128 nD τ)
open Cert.ReferenceIdeal (S1x131072x2x128)

/-! ## Sums over all the keys -/

theorem keys_eq : Finset.range 131072 = (Finset.univ : Finset (Fin 131072)).map Fin.valEmbedding := by
  ext n
  rw [Finset.mem_range, Finset.mem_map]
  exact ⟨fun h => ⟨⟨n, h⟩, Finset.mem_univ _, rfl⟩, fun ⟨j, _, e⟩ => e ▸ j.isLt⟩

/-- Key, or value, `n` of head group `g` in the whole array. -/
def keyAt (A : FVec Ideal S1x131072x2x128 .f32) (g : Fin 2) (n : ℕ) (k : Fin 128) : EReal :=
  A (ix4 0 ⟨n % 131072, Nat.mod_lt _ (by decide)⟩ g k)

theorem keyAt_val (A : FVec Ideal S1x131072x2x128 .f32) (g : Fin 2) (n : Fin 131072) (k : Fin 128) : keyAt A g n.val k = A (ix4 0 n g k) := by
  unfold keyAt
  congr 2
  exact Fin.ext (Nat.mod_eq_of_lt n.isLt)

/-- A device's part of the keys, or values. -/
theorem block_at (A : FVec Ideal S1x131072x2x128 .f32) (c : Fin 4) (i : Fin 32768) (g : Fin 2) (k : Fin 128) :
    (Layout.block S1x32768x2x128 S1x131072x2x128 1 4 c A) (ix4 0 i g k) = keyAt A g (32768 * c.val + i.val) k := by
  rw [Layout.block_apply]
  unfold keyAt
  refine congrArg A (funext fun a => Fin.ext ?_)
  rw [Layout.Tiles.idx_val]
  match a with
  | ⟨0, _⟩ => rfl
  | ⟨1, _⟩ =>
    show c.val * 32768 + i.val = (32768 * c.val + i.val) % 131072
    omega
  | ⟨2, _⟩ => rfl
  | ⟨3, _⟩ => rfl

section Attention

variable (X : FVec Ideal S1x128x1024 .f32) (WQ WO : FVec Ideal S1024x1024 .f32) (K V : FVec Ideal S1x131072x2x128 .f32)

/-- The kernel's score of a key is the reference's: the scale leaves the sum. -/
theorem score_eq (h : Fin 8) (i : Fin 128) (n : Fin 131072) :
    ∑ k : Fin 128, qVal X WQ ⟨h.val / 4, by omega⟩ ⟨128 * (h.val % 4) + i.val, by omega⟩ k * keyAt K ⟨h.val / 4, by omega⟩ n.val k
      = Ref.rsc X WQ K h i n := by
  unfold Ref.rsc
  rw [sum_mul_real _ _ scale_nonneg scale_ne_top]
  refine Finset.sum_congr rfl fun k _ => ?_
  rw [keyAt_val, qVal, mul_right_comm]
  refine congrArg (· * _ * scale) (Finset.sum_congr rfl fun y _ => ?_)
  congr 3
  · exact Fin.ext (by show (128 * (h.val % 4) + i.val) % 128 = i.val; omega)
  · exact Fin.ext (by show 512 * (h.val / 4) + 128 * ((128 * (h.val % 4) + i.val) / 128) + k.val = 128 * h.val + k.val; omega)

/-- The kernel's attention is the reference's. -/
theorem attn_eq (st : St Ideal)
    (H : ∀ g r d, Holds (Finset.range 131072) (fun n => ∑ k : Fin 128, qVal X WQ g r k * keyAt K g n k) (fun n => keyAt V g n d) st g r d)
    (h : Fin 8) (i d : Fin 128) :
    attn st ⟨h.val / 4, by omega⟩ ⟨128 * (h.val % 4) + i.val, by omega⟩ d = Ref.rA X WQ K V (ix4 0 i h d) := by
  obtain ⟨-, hl, ho⟩ := H ⟨h.val / 4, by omega⟩ ⟨128 * (h.val % 4) + i.val, by omega⟩ d
  rw [keys_eq, Finset.sum_map, Finset.sup_map] at hl ho
  have hs : (fun n => ∑ k : Fin 128, qVal X WQ ⟨h.val / 4, by omega⟩ ⟨128 * (h.val % 4) + i.val, by omega⟩ k * keyAt K ⟨h.val / 4, by omega⟩ n k)
      ∘ Fin.valEmbedding = Ref.rsc X WQ K h i := funext fun n => score_eq X WQ K h i n
  rw [hs] at hl ho
  rw [Ref.rA_at, attn, hl, ho]
  refine congrArg₂ Ideal.div (Finset.sum_congr rfl fun n _ => ?_) (Finset.sum_congr rfl fun n _ => ?_)
  · show Ideal.exp ((∑ k : Fin 128, qVal X WQ _ _ k * keyAt K _ n.val k) - _) * keyAt V _ n.val d = _
    rw [score_eq, keyAt_val, Ref.rw8]
  · show Ideal.exp ((∑ k : Fin 128, qVal X WQ _ _ k * keyAt K _ n.val k) - _) = _
    rw [score_eq, Ref.rw8]

theorem block_eq (st : St Ideal)
    (H : ∀ g r d, Holds (Finset.range 131072) (fun n => ∑ k : Fin 128, qVal X WQ g r k * keyAt K g n k) (fun n => keyAt V g n d) st g r d) :
    outOf WO st = Ref.rOut X WQ WO K V := by
  funext p
  obtain ⟨u, i, j, rfl⟩ : ∃ (u : Fin 1) (i : Fin 128) (j : Fin 1024), p = ix3 u i j := ⟨p 0, p 1, p 2, eq_ix3 p⟩
  obtain rfl : u = 0 := Subsingleton.elim _ _
  rw [outOf_at, Ref.rOut_at]
  refine Finset.sum_congr rfl fun y _ => congrArg (· * _) ?_
  rw [← attn_eq X WQ K V st H]
  unfold attnCol
  congr 1
  exact Fin.ext (by show y.val / 512 = y.val / 128 / 4; omega)

end Attention

/-! ## Every device's result -/

section Devices

variable (m : (ℓ : Loc KernelIdeal.nD KernelIdeal.τ KernelIdeal.sig) → Buf (Elt Ideal) ℓ)
  (X : FVec Ideal S1x128x1024 .f32) (WQ WO : FVec Ideal S1024x1024 .f32) (K V : FVec Ideal S1x131072x2x128 .f32)

theorem device_eq (hX : ∀ c, xAt m c = X) (hQ : ∀ c, wqAt m c = WQ) (hO : ∀ c, woAt m c = WO)
    (hK : ∀ c : Dev nD, kAt m c = Layout.block S1x32768x2x128 S1x131072x2x128 1 4 c K)
    (hV : ∀ c : Dev nD, vAt m c = Layout.block S1x32768x2x128 S1x131072x2x128 1 4 c V) (c : Dev nD) :
    outAt m c = Ref.rOut X WQ WO K V := by
  unfold outAt
  rw [hO]
  refine block_eq X WQ WO K V _ fun g r d => merged_soft c (endSt m) fun e => ?_
  have H := stAt_soft (qC X WQ) (kAt m e) (vAt m e) (keyAt K) (keyAt V) (32768 * e.val)
    (fun i g x => by rw [hK]; exact block_at K e i g x) (fun i g x => by rw [hV]; exact block_at V e i g x) g r d 32 le_rfl
  unfold endSt devKeys
  rw [hX, hQ, Nat.mul_succ]
  simp only [qC_at] at H
  exact H

end Devices

/-- The kernel, on four devices, and the reference end holding the same result. -/
theorem same_result : Cert.algebraic_KernelIdeal_ReferenceIdeal := fun m g m' g' _ hin =>
  ⟨Ref.rOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run KernelIdeal.defs _ _).mono (fun r h c =>
      ⟨(result_end c h.1).trans (device_eq m _ _ _ _ _ (fun c => (hin c).1) (fun c => (hin c).2.1) (fun c => (hin c).2.2.1)
        (fun c => (hin c).2.2.2.1) (fun c => (hin c).2.2.2.2) c), args_end c h.1⟩) (run_main (F := Ideal) m g),
    (θ_run Cert.ReferenceIdeal.defs _ _).mono (fun r h => by
      refine ⟨(h 0).1.trans ?_, (h 0).2⟩
      unfold Ref.rOut Ref.rA Ref.rO Ref.rL Ref.rP Ref.rM Ref.rS Ref.rQ Ref.rK
      rfl) (Cert.ReferenceIdeal.Value.run (F := Ideal) m' g')⟩

end Cert.RingAttn

end
-- ==== Proof.lean ====
/-
# The claims

Each program runs to its end with its arguments unchanged and its semaphores at zero, the kernel over extended reals is the
kernel's own text, and over extended reals every device ends holding the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts,
    Cert.RingAttn.frame_bits, Cert.RingAttn.frame_reals, Cert.RingAttn.frame_reference, trivial,
    Cert.RingAttn.same_result⟩

end Cert.Proof

end
